-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x4096 : Shape := ⟨2, ![16384, 4096]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S16384x4096 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 4096#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S16384x4096 : Shape := ⟨2, ![16384, 4096]⟩
abbrev S4096 : Shape := ⟨1, ![4096]⟩
abbrev S_ : Shape := ⟨0, ![]⟩
abbrev S2x4x4096 : Shape := ⟨3, ![2, 4, 4096]⟩
abbrev S2 : Shape := ⟨1, ![2]⟩
abbrev S1x4x4096 : Shape := ⟨3, ![1, 4, 4096]⟩
abbrev S4x4096 : Shape := ⟨2, ![4, 4096]⟩
abbrev S1 : Shape := ⟨1, ![1]⟩
abbrev S16 : Shape := ⟨1, ![16]⟩
abbrev S1x16 : Shape := ⟨2, ![1, 16]⟩

abbrev nBuf : Table → Nat
  | .hbm => 3
  | .local .scVector .vmem => 3
  | _ => 0

abbrev bufTy : (tb : Table) → Fin (nBuf tb) → BufTy
  | .hbm, ⟨0, _⟩ => ⟨S16384x4096, .f32⟩
  | .hbm, ⟨1, _⟩ => ⟨S4096, .i32⟩
  | .hbm, ⟨2, _⟩ => ⟨S16384x4096, .f32⟩
  | .local .scVector .vmem, ⟨0, _⟩ => ⟨S4096, .i32⟩
  | .local .scVector .vmem, ⟨1, _⟩ => ⟨S2x4x4096, .f32⟩
  | .local .scVector .vmem, ⟨2, _⟩ => ⟨S2x4x4096, .f32⟩
  | _, _ => ⟨S16384x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scoped1 : Ref sig .scVector := ⟨.vmem, 1, rfl⟩
abbrev cc0_scoped3 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r1 : BitVec 32 := 0#32
  let c2_i32_r1 : BitVec 32 := 2#32
  let v21_r1 : BitVec 32 := Scalar.remui c0_i32_13_r1 c2_i32_r1
  let c0_i32_14_r1 : BitVec 32 := 0#32
  let c0_i32_15_r1 : BitVec 32 := 0#32
  ![v21_r1.toNat, 0, 0]
def k0_off2 (i : grid0.Coords) : Fin 2 → Nat :=
  let c4_i32_r1 : BitVec 32 := 4#32
  let c0_i32_1_r1 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v7_r1 : BitVec 32 := Scalar.addi c0_i32_1_r1 v4
  let v22_r1 : BitVec 32 := Scalar.muli c4_i32_r1 v7_r1
  let c0_i32_16_r1 : BitVec 32 := 0#32
  ![v22_r1.toNat, 0]
def k0_off3 : Fin 1 → Nat :=
  let c0_i32_13_r1 : BitVec 32 := 0#32
  let c2_i32_r1 : BitVec 32 := 2#32
  let v21_r1 : BitVec 32 := Scalar.remui c0_i32_13_r1 c2_i32_r1
  ![v21_r1.toNat]
@[reducible] def k0_t1_loop : Scf.Loop 32 :=
  let c0_i32_26_r1 : BitVec 32 := 0#32
  let c128_i32_27_r1 : BitVec 32 := 128#32
  let v32_r1 : BitVec 32 := Scalar.addi c0_i32_26_r1 c128_i32_27_r1
  let c1_i32_28_r1 : BitVec 32 := 1#32
  ⟨c0_i32_26_r1, v32_r1, c1_i32_28_r1⟩
def k0_off4 (arg7_r1 : BitVec 32) : Fin 3 → Nat :=
  let c2_i32_101_r1 : BitVec 32 := 2#32
  let v145_r1 : BitVec 32 := Scalar.remui arg7_r1 c2_i32_101_r1
  let c0_i32_103_r1 : BitVec 32 := 0#32
  let c0_i32_104_r1 : BitVec 32 := 0#32
  ![v145_r1.toNat, 0, 0]
def k0_cond1 (i : grid0.Coords) (k0_t1 : Fin k0_t1_loop.trips) (arg11_r1 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r1 : BitVec 32 := Scalar.addi arg11_r1 v4
  let true_61_r1 : BitVec 1 := 1#1
  let c1_i32_60_r1 : BitVec 32 := 1#32
  let v72_r1 : BitVec 32 := Scalar.addi arg11_r1 c1_i32_60_r1
  let v73_r1 : BitVec 32 := Scalar.select true_61_r1 v72_r1 arg11_r1
  let c128_i32_62_r1 : BitVec 32 := 128#32
  let v74_r1 : BitVec 1 := Scalar.cmpi .eq v73_r1 c128_i32_62_r1
  let c0_i32_63_r1 : BitVec 32 := 0#32
  let v75_r1 : BitVec 32 := Scalar.select v74_r1 c0_i32_63_r1 v73_r1
  let v76_r1 : BitVec 32 := Scalar.addi v75_r1 v4
  let v82_r1 : BitVec 1 := Scalar.cmpi .ne v66_r1 v76_r1
  let c0_i32_26_r1 : BitVec 32 := 0#32
  let c1_i32_28_r1 : BitVec 32 := 1#32
  let arg6_r1 : BitVec 32 := Scf.iv c0_i32_26_r1 c1_i32_28_r1 k0_t1
  let c127_i32_68_r1 : BitVec 32 := 127#32
  let v83_r1 : BitVec 1 := Scalar.cmpi .sge arg6_r1 c127_i32_68_r1
  let true_69_r1 : BitVec 1 := 1#1
  let v84_r1 : BitVec 1 := Scalar.xori v83_r1 true_69_r1
  let v85_r1 : BitVec 1 := Scalar.andi v82_r1 v84_r1
  let true_70_r1 : BitVec 1 := 1#1
  let v86_r1 : BitVec 1 := Scalar.andi v85_r1 true_70_r1
  let v87_r1 : BitVec 32 := Scalar.extui v86_r1
  let c0_i32_71_r1 : BitVec 32 := 0#32
  let v88_r1 : BitVec 1 := Scalar.cmpi .ne v87_r1 c0_i32_71_r1
  v88_r1

def k0_off5 (i : grid0.Coords) (arg11_r1 : BitVec 32) : Fin 2 → Nat :=
  let c4_i32_102_r1 : BitVec 32 := 4#32
  let true_61_r1 : BitVec 1 := 1#1
  let c1_i32_60_r1 : BitVec 32 := 1#32
  let v72_r1 : BitVec 32 := Scalar.addi arg11_r1 c1_i32_60_r1
  let v73_r1 : BitVec 32 := Scalar.select true_61_r1 v72_r1 arg11_r1
  let c128_i32_62_r1 : BitVec 32 := 128#32
  let v74_r1 : BitVec 1 := Scalar.cmpi .eq v73_r1 c128_i32_62_r1
  let c0_i32_63_r1 : BitVec 32 := 0#32
  let v75_r1 : BitVec 32 := Scalar.select v74_r1 c0_i32_63_r1 v73_r1
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v76_r1 : BitVec 32 := Scalar.addi v75_r1 v4
  let v146_r1 : BitVec 32 := Scalar.muli c4_i32_102_r1 v76_r1
  let c0_i32_105_r1 : BitVec 32 := 0#32
  ![v146_r1.toNat, 0]
def k0_off6 (arg7_r1 : BitVec 32) : Fin 1 → Nat :=
  let c2_i32_101_r1 : BitVec 32 := 2#32
  let v145_r1 : BitVec 32 := Scalar.remui arg7_r1 c2_i32_101_r1
  ![v145_r1.toNat]
def k0_off7 (arg8_r1 : BitVec 32) : Fin 3 → Nat :=
  let c2_i32_102_r1 : BitVec 32 := 2#32
  let v146_r1 : BitVec 32 := Scalar.remui arg8_r1 c2_i32_102_r1
  let c0_i32_103_r1 : BitVec 32 := 0#32
  let c0_i32_104_r1 : BitVec 32 := 0#32
  ![v146_r1.toNat, 0, 0]
def k0_cond2 (i : grid0.Coords) (k0_t1 : Fin k0_t1_loop.trips) (arg11_r1 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r1 : BitVec 32 := Scalar.addi arg11_r1 v4
  let true_57_r1 : BitVec 1 := 1#1
  let c1_i32_56_r1 : BitVec 32 := 1#32
  let v67_r1 : BitVec 32 := Scalar.subi arg11_r1 c1_i32_56_r1
  let v68_r1 : BitVec 32 := Scalar.select true_57_r1 v67_r1 arg11_r1
  let c_m1_i32_58_r1 : BitVec 32 := 4294967295#32
  let v69_r1 : BitVec 1 := Scalar.cmpi .eq v68_r1 c_m1_i32_58_r1
  let c127_i32_59_r1 : BitVec 32 := 127#32
  let v70_r1 : BitVec 32 := Scalar.select v69_r1 c127_i32_59_r1 v68_r1
  let v71_r1 : BitVec 32 := Scalar.addi v70_r1 v4
  let v96_r1 : BitVec 1 := Scalar.cmpi .ne v66_r1 v71_r1
  let c0_i32_26_r1 : BitVec 32 := 0#32
  let c1_i32_28_r1 : BitVec 32 := 1#32
  let arg6_r1 : BitVec 32 := Scf.iv c0_i32_26_r1 c1_i32_28_r1 k0_t1
  let c0_i32_54_r1 : BitVec 32 := 0#32
  let v64_r1 : BitVec 1 := Scalar.cmpi .eq arg6_r1 c0_i32_54_r1
  let v97_r1 : BitVec 1 := Scalar.ori v96_r1 v64_r1
  let c0_i32_76_r1 : BitVec 32 := 0#32
  let v98_r1 : BitVec 1 := Scalar.cmpi .sge arg6_r1 c0_i32_76_r1
  let v99_r1 : BitVec 1 := Scalar.andi v97_r1 v98_r1
  let v100_r1 : BitVec 32 := Scalar.extui v99_r1
  let c0_i32_77_r1 : BitVec 32 := 0#32
  let v101_r1 : BitVec 1 := Scalar.cmpi .ne v100_r1 c0_i32_77_r1
  v101_r1

def k0_off8 (i : grid0.Coords) (arg11_r1 : BitVec 32) : Fin 2 → Nat :=
  let c4_i32_101_r1 : BitVec 32 := 4#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r1 : BitVec 32 := Scalar.addi arg11_r1 v4
  let v145_r1 : BitVec 32 := Scalar.muli c4_i32_101_r1 v66_r1
  let c0_i32_105_r1 : BitVec 32 := 0#32
  ![v145_r1.toNat, 0]
def k0_off9 (arg8_r1 : BitVec 32) : Fin 1 → Nat :=
  let c2_i32_102_r1 : BitVec 32 := 2#32
  let v146_r1 : BitVec 32 := Scalar.remui arg8_r1 c2_i32_102_r1
  ![v146_r1.toNat]
@[reducible] def k0_t2_loop : Scf.Loop 32 :=
  let c0_i32_82_r1 : BitVec 32 := 0#32
  let c256_i32_r1 : BitVec 32 := 256#32
  let v110_r1 : BitVec 32 := Scalar.addi c0_i32_82_r1 c256_i32_r1
  let c1_i32_83_r1 : BitVec 32 := 1#32
  ⟨c0_i32_82_r1, v110_r1, c1_i32_83_r1⟩
def k0_off10 (k0_t2 : Fin k0_t2_loop.trips) : Fin 1 → Nat :=
  let c0_i32_102_r1 : BitVec 32 := 0#32
  let c0_i32_82_r1 : BitVec 32 := 0#32
  let c1_i32_83_r1 : BitVec 32 := 1#32
  let arg12_r1 : BitVec 32 := Scf.iv c0_i32_82_r1 c1_i32_83_r1 k0_t2
  let c1_i32_101_r1 : BitVec 32 := 1#32
  let v145_r1 : BitVec 32 := Scalar.muli arg12_r1 c1_i32_101_r1
  let v146_r1 : BitVec 32 := Scalar.addi c0_i32_102_r1 v145_r1
  let c16_i32_103_r1 : BitVec 32 := 16#32
  let v147_r1 : BitVec 32 := Scalar.muli v146_r1 c16_i32_103_r1
  let v148_r1 : Index := Scalar.indexCast v147_r1
  ![v148_r1.toNat]
def k0_off11 (arg8_r1 : BitVec 32) : Fin 3 → Nat :=
  let c2_i32_80_r1 : BitVec 32 := 2#32
  let v108_r1 : BitVec 32 := Scalar.remui arg8_r1 c2_i32_80_r1
  let c0_i32_105_r1 : BitVec 32 := 0#32
  let c0_i32_106_r1 : BitVec 32 := 0#32
  ![v108_r1.toNat, 0, 0]

def k0_chk3 (v149_r1 : IVec S16 32) (v150_r1 : IVec S16 32) : Prop :=
  (∀ a x, ((![v150_r1, v149_r1] : Fin 2 → IVec S16 32) a x).toNat < S4x4096.size a)
theorem k0_idx1_inb : ∀ (v149_r1 : IVec S16 32) (v150_r1 : IVec S16 32) (k0_hw3 : k0_chk3 v149_r1 v150_r1), ∀ a x, ((![v150_r1, v149_r1] : Fin 2 → IVec S16 32) a x).toNat < S4x4096.size a := fun v149_r1 v150_r1 k0_hw3 => k0_hw3
def k0_off12 (arg9_r1 : BitVec 32) : Fin 3 → Nat :=
  let c2_i32_81_r1 : BitVec 32 := 2#32
  let v109_r1 : BitVec 32 := Scalar.remui arg9_r1 c2_i32_81_r1
  let c0_i32_108_r1 : BitVec 32 := 0#32
  let c0_i32_109_r1 : BitVec 32 := 0#32
  ![v109_r1.toNat, 0, 0]

def k0_off13 (k0_t2 : Fin k0_t2_loop.trips) : Fin 2 → Nat :=
  let c0_i32_107_r1 : BitVec 32 := 0#32
  let v156_r1 : Index := Scalar.indexCast c0_i32_107_r1
  let c0_i32_102_r1 : BitVec 32 := 0#32
  let c0_i32_82_r1 : BitVec 32 := 0#32
  let c1_i32_83_r1 : BitVec 32 := 1#32
  let arg12_r1 : BitVec 32 := Scf.iv c0_i32_82_r1 c1_i32_83_r1 k0_t2
  let c1_i32_101_r1 : BitVec 32 := 1#32
  let v145_r1 : BitVec 32 := Scalar.muli arg12_r1 c1_i32_101_r1
  let v146_r1 : BitVec 32 := Scalar.addi c0_i32_102_r1 v145_r1
  let c16_i32_103_r1 : BitVec 32 := 16#32
  let v147_r1 : BitVec 32 := Scalar.muli v146_r1 c16_i32_103_r1
  let v157_r1 : Index := Scalar.indexCast v147_r1
  ![0, v157_r1.toNat]
def k0_off14 (arg8_r1 : BitVec 32) : Fin 3 → Nat :=
  let c2_i32_80_r1 : BitVec 32 := 2#32
  let v108_r1 : BitVec 32 := Scalar.remui arg8_r1 c2_i32_80_r1
  let c0_i32_111_r1 : BitVec 32 := 0#32
  let c0_i32_112_r1 : BitVec 32 := 0#32
  ![v108_r1.toNat, 0, 0]

def k0_chk5 (v149_r1 : IVec S16 32) (v159_r1 : IVec S16 32) : Prop :=
  (∀ a x, ((![v159_r1, v149_r1] : Fin 2 → IVec S16 32) a x).toNat < S4x4096.size a)
theorem k0_idx2_inb : ∀ (v149_r1 : IVec S16 32) (v159_r1 : IVec S16 32) (k0_hw5 : k0_chk5 v149_r1 v159_r1), ∀ a x, ((![v159_r1, v149_r1] : Fin 2 → IVec S16 32) a x).toNat < S4x4096.size a := fun v149_r1 v159_r1 k0_hw5 => k0_hw5
def k0_off15 (arg9_r1 : BitVec 32) : Fin 3 → Nat :=
  let c2_i32_81_r1 : BitVec 32 := 2#32
  let v109_r1 : BitVec 32 := Scalar.remui arg9_r1 c2_i32_81_r1
  let c0_i32_114_r1 : BitVec 32 := 0#32
  let c0_i32_115_r1 : BitVec 32 := 0#32
  ![v109_r1.toNat, 0, 0]
def k0_off16 (k0_t2 : Fin k0_t2_loop.trips) : Fin 2 → Nat :=
  let c1_i32_113_r1 : BitVec 32 := 1#32
  let v165_r1 : Index := Scalar.indexCast c1_i32_113_r1
  let c0_i32_102_r1 : BitVec 32 := 0#32
  let c0_i32_82_r1 : BitVec 32 := 0#32
  let c1_i32_83_r1 : BitVec 32 := 1#32
  let arg12_r1 : BitVec 32 := Scf.iv c0_i32_82_r1 c1_i32_83_r1 k0_t2
  let c1_i32_101_r1 : BitVec 32 := 1#32
  let v145_r1 : BitVec 32 := Scalar.muli arg12_r1 c1_i32_101_r1
  let v146_r1 : BitVec 32 := Scalar.addi c0_i32_102_r1 v145_r1
  let c16_i32_103_r1 : BitVec 32 := 16#32
  let v147_r1 : BitVec 32 := Scalar.muli v146_r1 c16_i32_103_r1
  let v166_r1 : Index := Scalar.indexCast v147_r1
  ![1, v166_r1.toNat]
def k0_off17 (arg8_r1 : BitVec 32) : Fin 3 → Nat :=
  let c2_i32_80_r1 : BitVec 32 := 2#32
  let v108_r1 : BitVec 32 := Scalar.remui arg8_r1 c2_i32_80_r1
  let c0_i32_117_r1 : BitVec 32 := 0#32
  let c0_i32_118_r1 : BitVec 32 := 0#32
  ![v108_r1.toNat, 0, 0]

def k0_chk6 (v149_r1 : IVec S16 32) (v168_r1 : IVec S16 32) : Prop :=
  (∀ a x, ((![v168_r1, v149_r1] : Fin 2 → IVec S16 32) a x).toNat < S4x4096.size a)
theorem k0_idx3_inb : ∀ (v149_r1 : IVec S16 32) (v168_r1 : IVec S16 32) (k0_hw6 : k0_chk6 v149_r1 v168_r1), ∀ a x, ((![v168_r1, v149_r1] : Fin 2 → IVec S16 32) a x).toNat < S4x4096.size a := fun v149_r1 v168_r1 k0_hw6 => k0_hw6
def k0_off18 (arg9_r1 : BitVec 32) : Fin 3 → Nat :=
  let c2_i32_81_r1 : BitVec 32 := 2#32
  let v109_r1 : BitVec 32 := Scalar.remui arg9_r1 c2_i32_81_r1
  let c0_i32_120_r1 : BitVec 32 := 0#32
  let c0_i32_121_r1 : BitVec 32 := 0#32
  ![v109_r1.toNat, 0, 0]
def k0_off19 (k0_t2 : Fin k0_t2_loop.trips) : Fin 2 → Nat :=
  let c2_i32_119_r1 : BitVec 32 := 2#32
  let v174_r1 : Index := Scalar.indexCast c2_i32_119_r1
  let c0_i32_102_r1 : BitVec 32 := 0#32
  let c0_i32_82_r1 : BitVec 32 := 0#32
  let c1_i32_83_r1 : BitVec 32 := 1#32
  let arg12_r1 : BitVec 32 := Scf.iv c0_i32_82_r1 c1_i32_83_r1 k0_t2
  let c1_i32_101_r1 : BitVec 32 := 1#32
  let v145_r1 : BitVec 32 := Scalar.muli arg12_r1 c1_i32_101_r1
  let v146_r1 : BitVec 32 := Scalar.addi c0_i32_102_r1 v145_r1
  let c16_i32_103_r1 : BitVec 32 := 16#32
  let v147_r1 : BitVec 32 := Scalar.muli v146_r1 c16_i32_103_r1
  let v175_r1 : Index := Scalar.indexCast v147_r1
  ![2, v175_r1.toNat]
def k0_off20 (arg8_r1 : BitVec 32) : Fin 3 → Nat :=
  let c2_i32_80_r1 : BitVec 32 := 2#32
  let v108_r1 : BitVec 32 := Scalar.remui arg8_r1 c2_i32_80_r1
  let c0_i32_122_r1 : BitVec 32 := 0#32
  let c0_i32_123_r1 : BitVec 32 := 0#32
  ![v108_r1.toNat, 0, 0]

def k0_chk2 (arg8_r1 : BitVec 32) : Prop :=
  (∀ a, (k0_off11 arg8_r1) a + S1x4x4096.size a ≤ S2x4x4096.size a) ∧
  (∀ a, (k0_off14 arg8_r1) a + S1x4x4096.size a ≤ S2x4x4096.size a) ∧
  (∀ a, (k0_off17 arg8_r1) a + S1x4x4096.size a ≤ S2x4x4096.size a) ∧
  (∀ a, (k0_off20 arg8_r1) a + S1x4x4096.size a ≤ S2x4x4096.size a)
theorem k0_off11_inb : ∀ (arg8_r1 : BitVec 32) (k0_hw2 : k0_chk2 arg8_r1), ∀ a, (k0_off11 arg8_r1) a + S1x4x4096.size a ≤ S2x4x4096.size a := fun arg8_r1 k0_hw2 => k0_hw2.1
theorem k0_off14_inb : ∀ (arg8_r1 : BitVec 32) (k0_hw2 : k0_chk2 arg8_r1), ∀ a, (k0_off14 arg8_r1) a + S1x4x4096.size a ≤ S2x4x4096.size a := fun arg8_r1 k0_hw2 => k0_hw2.2.1
theorem k0_off17_inb : ∀ (arg8_r1 : BitVec 32) (k0_hw2 : k0_chk2 arg8_r1), ∀ a, (k0_off17 arg8_r1) a + S1x4x4096.size a ≤ S2x4x4096.size a := fun arg8_r1 k0_hw2 => k0_hw2.2.2.1
theorem k0_off20_inb : ∀ (arg8_r1 : BitVec 32) (k0_hw2 : k0_chk2 arg8_r1), ∀ a, (k0_off20 arg8_r1) a + S1x4x4096.size a ≤ S2x4x4096.size a := fun arg8_r1 k0_hw2 => k0_hw2.2.2.2

def k0_chk7 (v149_r1 : IVec S16 32) (v177_r1 : IVec S16 32) : Prop :=
  (∀ a x, ((![v177_r1, v149_r1] : Fin 2 → IVec S16 32) a x).toNat < S4x4096.size a)
theorem k0_idx4_inb : ∀ (v149_r1 : IVec S16 32) (v177_r1 : IVec S16 32) (k0_hw7 : k0_chk7 v149_r1 v177_r1), ∀ a x, ((![v177_r1, v149_r1] : Fin 2 → IVec S16 32) a x).toNat < S4x4096.size a := fun v149_r1 v177_r1 k0_hw7 => k0_hw7
def k0_off21 (arg9_r1 : BitVec 32) : Fin 3 → Nat :=
  let c2_i32_81_r1 : BitVec 32 := 2#32
  let v109_r1 : BitVec 32 := Scalar.remui arg9_r1 c2_i32_81_r1
  let c0_i32_125_r1 : BitVec 32 := 0#32
  let c0_i32_126_r1 : BitVec 32 := 0#32
  ![v109_r1.toNat, 0, 0]

def k0_chk4 (arg9_r1 : BitVec 32) : Prop :=
  (∀ a, (k0_off12 arg9_r1) a + S1x4x4096.size a ≤ S2x4x4096.size a) ∧
  (∀ a, (k0_off15 arg9_r1) a + S1x4x4096.size a ≤ S2x4x4096.size a) ∧
  (∀ a, (k0_off18 arg9_r1) a + S1x4x4096.size a ≤ S2x4x4096.size a) ∧
  (∀ a, (k0_off21 arg9_r1) a + S1x4x4096.size a ≤ S2x4x4096.size a)
theorem k0_off12_inb : ∀ (arg9_r1 : BitVec 32) (k0_hw4 : k0_chk4 arg9_r1), ∀ a, (k0_off12 arg9_r1) a + S1x4x4096.size a ≤ S2x4x4096.size a := fun arg9_r1 k0_hw4 => k0_hw4.1
theorem k0_off15_inb : ∀ (arg9_r1 : BitVec 32) (k0_hw4 : k0_chk4 arg9_r1), ∀ a, (k0_off15 arg9_r1) a + S1x4x4096.size a ≤ S2x4x4096.size a := fun arg9_r1 k0_hw4 => k0_hw4.2.1
theorem k0_off18_inb : ∀ (arg9_r1 : BitVec 32) (k0_hw4 : k0_chk4 arg9_r1), ∀ a, (k0_off18 arg9_r1) a + S1x4x4096.size a ≤ S2x4x4096.size a := fun arg9_r1 k0_hw4 => k0_hw4.2.2.1
theorem k0_off21_inb : ∀ (arg9_r1 : BitVec 32) (k0_hw4 : k0_chk4 arg9_r1), ∀ a, (k0_off21 arg9_r1) a + S1x4x4096.size a ≤ S2x4x4096.size a := fun arg9_r1 k0_hw4 => k0_hw4.2.2.2

def k0_off22 (k0_t2 : Fin k0_t2_loop.trips) : Fin 2 → Nat :=
  let c3_i32_124_r1 : BitVec 32 := 3#32
  let v183_r1 : Index := Scalar.indexCast c3_i32_124_r1
  let c0_i32_102_r1 : BitVec 32 := 0#32
  let c0_i32_82_r1 : BitVec 32 := 0#32
  let c1_i32_83_r1 : BitVec 32 := 1#32
  let arg12_r1 : BitVec 32 := Scf.iv c0_i32_82_r1 c1_i32_83_r1 k0_t2
  let c1_i32_101_r1 : BitVec 32 := 1#32
  let v145_r1 : BitVec 32 := Scalar.muli arg12_r1 c1_i32_101_r1
  let v146_r1 : BitVec 32 := Scalar.addi c0_i32_102_r1 v145_r1
  let c16_i32_103_r1 : BitVec 32 := 16#32
  let v147_r1 : BitVec 32 := Scalar.muli v146_r1 c16_i32_103_r1
  let v184_r1 : Index := Scalar.indexCast v147_r1
  ![3, v184_r1.toNat]
def k0_off23 (arg9_r1 : BitVec 32) : Fin 3 → Nat :=
  let c2_i32_101_r1 : BitVec 32 := 2#32
  let v145_r1 : BitVec 32 := Scalar.remui arg9_r1 c2_i32_101_r1
  let c0_i32_103_r1 : BitVec 32 := 0#32
  let c0_i32_104_r1 : BitVec 32 := 0#32
  ![v145_r1.toNat, 0, 0]
def k0_cond5 (i : grid0.Coords) (k0_t1 : Fin k0_t1_loop.trips) (arg11_r1 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r1 : BitVec 32 := Scalar.addi arg11_r1 v4
  let true_61_r1 : BitVec 1 := 1#1
  let c1_i32_60_r1 : BitVec 32 := 1#32
  let v72_r1 : BitVec 32 := Scalar.addi arg11_r1 c1_i32_60_r1
  let v73_r1 : BitVec 32 := Scalar.select true_61_r1 v72_r1 arg11_r1
  let c128_i32_62_r1 : BitVec 32 := 128#32
  let v74_r1 : BitVec 1 := Scalar.cmpi .eq v73_r1 c128_i32_62_r1
  let c0_i32_63_r1 : BitVec 32 := 0#32
  let v75_r1 : BitVec 32 := Scalar.select v74_r1 c0_i32_63_r1 v73_r1
  let v76_r1 : BitVec 32 := Scalar.addi v75_r1 v4
  let v116_r1 : BitVec 1 := Scalar.cmpi .ne v66_r1 v76_r1
  let c0_i32_26_r1 : BitVec 32 := 0#32
  let c1_i32_28_r1 : BitVec 32 := 1#32
  let arg6_r1 : BitVec 32 := Scf.iv c0_i32_26_r1 c1_i32_28_r1 k0_t1
  let c127_i32_55_r1 : BitVec 32 := 127#32
  let v65_r1 : BitVec 1 := Scalar.cmpi .eq arg6_r1 c127_i32_55_r1
  let v117_r1 : BitVec 1 := Scalar.ori v116_r1 v65_r1
  let v118_r1 : BitVec 32 := Scalar.extui v117_r1
  let c0_i32_86_r1 : BitVec 32 := 0#32
  let v119_r1 : BitVec 1 := Scalar.cmpi .ne v118_r1 c0_i32_86_r1
  v119_r1

def k0_off24 (i : grid0.Coords) (arg11_r1 : BitVec 32) : Fin 2 → Nat :=
  let c4_i32_102_r1 : BitVec 32 := 4#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r1 : BitVec 32 := Scalar.addi arg11_r1 v4
  let v146_r1 : BitVec 32 := Scalar.muli c4_i32_102_r1 v66_r1
  let c0_i32_105_r1 : BitVec 32 := 0#32
  ![v146_r1.toNat, 0]
def k0_off25 (arg9_r1 : BitVec 32) : Fin 1 → Nat :=
  let c2_i32_101_r1 : BitVec 32 := 2#32
  let v145_r1 : BitVec 32 := Scalar.remui arg9_r1 c2_i32_101_r1
  ![v145_r1.toNat]
def k0_off26 (arg10_r1 : BitVec 32) : Fin 3 → Nat :=
  let c2_i32_101_r1 : BitVec 32 := 2#32
  let v145_r1 : BitVec 32 := Scalar.remui arg10_r1 c2_i32_101_r1
  let c0_i32_103_r1 : BitVec 32 := 0#32
  let c0_i32_104_r1 : BitVec 32 := 0#32
  ![v145_r1.toNat, 0, 0]
def k0_cond7 (i : grid0.Coords) (k0_t1 : Fin k0_t1_loop.trips) (arg11_r1 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r1 : BitVec 32 := Scalar.addi arg11_r1 v4
  let true_57_r1 : BitVec 1 := 1#1
  let c1_i32_56_r1 : BitVec 32 := 1#32
  let v67_r1 : BitVec 32 := Scalar.subi arg11_r1 c1_i32_56_r1
  let v68_r1 : BitVec 32 := Scalar.select true_57_r1 v67_r1 arg11_r1
  let c_m1_i32_58_r1 : BitVec 32 := 4294967295#32
  let v69_r1 : BitVec 1 := Scalar.cmpi .eq v68_r1 c_m1_i32_58_r1
  let c127_i32_59_r1 : BitVec 32 := 127#32
  let v70_r1 : BitVec 32 := Scalar.select v69_r1 c127_i32_59_r1 v68_r1
  let v71_r1 : BitVec 32 := Scalar.addi v70_r1 v4
  let v129_r1 : BitVec 1 := Scalar.cmpi .ne v66_r1 v71_r1
  let c0_i32_26_r1 : BitVec 32 := 0#32
  let c1_i32_28_r1 : BitVec 32 := 1#32
  let arg6_r1 : BitVec 32 := Scf.iv c0_i32_26_r1 c1_i32_28_r1 k0_t1
  let c0_i32_54_r1 : BitVec 32 := 0#32
  let v64_r1 : BitVec 1 := Scalar.cmpi .eq arg6_r1 c0_i32_54_r1
  let true_92_r1 : BitVec 1 := 1#1
  let v130_r1 : BitVec 1 := Scalar.xori v64_r1 true_92_r1
  let v131_r1 : BitVec 1 := Scalar.andi v129_r1 v130_r1
  let v132_r1 : BitVec 32 := Scalar.extui v131_r1
  let c0_i32_93_r1 : BitVec 32 := 0#32
  let v133_r1 : BitVec 1 := Scalar.cmpi .ne v132_r1 c0_i32_93_r1
  v133_r1

def k0_off27 (i : grid0.Coords) (arg11_r1 : BitVec 32) : Fin 2 → Nat :=
  let c4_i32_102_r1 : BitVec 32 := 4#32
  let true_57_r1 : BitVec 1 := 1#1
  let c1_i32_56_r1 : BitVec 32 := 1#32
  let v67_r1 : BitVec 32 := Scalar.subi arg11_r1 c1_i32_56_r1
  let v68_r1 : BitVec 32 := Scalar.select true_57_r1 v67_r1 arg11_r1
  let c_m1_i32_58_r1 : BitVec 32 := 4294967295#32
  let v69_r1 : BitVec 1 := Scalar.cmpi .eq v68_r1 c_m1_i32_58_r1
  let c127_i32_59_r1 : BitVec 32 := 127#32
  let v70_r1 : BitVec 32 := Scalar.select v69_r1 c127_i32_59_r1 v68_r1
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v71_r1 : BitVec 32 := Scalar.addi v70_r1 v4
  let v146_r1 : BitVec 32 := Scalar.muli c4_i32_102_r1 v71_r1
  let c0_i32_105_r1 : BitVec 32 := 0#32
  ![v146_r1.toNat, 0]
def k0_off28 (arg10_r1 : BitVec 32) : Fin 1 → Nat :=
  let c2_i32_101_r1 : BitVec 32 := 2#32
  let v145_r1 : BitVec 32 := Scalar.remui arg10_r1 c2_i32_101_r1
  ![v145_r1.toNat]

def k0_chk1 (i : grid0.Coords) (k0_t1 : Fin k0_t1_loop.trips) (arg7_r1 : BitVec 32) (arg8_r1 : BitVec 32) (arg9_r1 : BitVec 32) (arg10_r1 : BitVec 32) (arg11_r1 : BitVec 32) : Prop :=
  (∀ (k0_h1 : k0_cond1 i k0_t1 arg11_r1 = 1#1), ∀ a, (k0_off4 arg7_r1) a + S1x4x4096.size a ≤ S2x4x4096.size a) ∧
  (∀ (k0_h1 : k0_cond1 i k0_t1 arg11_r1 = 1#1), ∀ a, (k0_off5 i arg11_r1) a + S4x4096.size a ≤ S16384x4096.size a) ∧
  (∀ (k0_h1 : k0_cond1 i k0_t1 arg11_r1 = 1#1), ∀ a, (k0_off6 arg7_r1) a + S1.size a ≤ S2.size a) ∧
  (∀ (k0_h2 : k0_cond2 i k0_t1 arg11_r1 = 1#1), ∀ a, (k0_off7 arg8_r1) a + S1x4x4096.size a ≤ S2x4x4096.size a) ∧
  (∀ (k0_h2 : k0_cond2 i k0_t1 arg11_r1 = 1#1), ∀ a, (k0_off8 i arg11_r1) a + S4x4096.size a ≤ S16384x4096.size a) ∧
  (∀ (k0_h2 : k0_cond2 i k0_t1 arg11_r1 = 1#1), ∀ a, (k0_off9 arg8_r1) a + S1.size a ≤ S2.size a) ∧
  (∀ (k0_h5 : k0_cond5 i k0_t1 arg11_r1 = 1#1), ∀ a, (k0_off23 arg9_r1) a + S1x4x4096.size a ≤ S2x4x4096.size a) ∧
  (∀ (k0_h5 : k0_cond5 i k0_t1 arg11_r1 = 1#1), ∀ a, (k0_off24 i arg11_r1) a + S4x4096.size a ≤ S16384x4096.size a) ∧
  (∀ (k0_h5 : k0_cond5 i k0_t1 arg11_r1 = 1#1), ∀ a, (k0_off25 arg9_r1) a + S1.size a ≤ S2.size a) ∧
  (∀ (k0_h7 : k0_cond7 i k0_t1 arg11_r1 = 1#1), ∀ a, (k0_off26 arg10_r1) a + S1x4x4096.size a ≤ S2x4x4096.size a) ∧
  (∀ (k0_h7 : k0_cond7 i k0_t1 arg11_r1 = 1#1), ∀ a, (k0_off27 i arg11_r1) a + S4x4096.size a ≤ S16384x4096.size a) ∧
  (∀ (k0_h7 : k0_cond7 i k0_t1 arg11_r1 = 1#1), ∀ a, (k0_off28 arg10_r1) a + S1.size a ≤ S2.size a)
theorem k0_off4_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h1 : k0_cond1 i k0_t1 arg11_r1 = 1#1), ∀ a, (k0_off4 arg7_r1) a + S1x4x4096.size a ≤ S2x4x4096.size a := fun i k0_t1 arg7_r1 arg8_r1 arg9_r1 arg10_r1 arg11_r1 k0_hw1 k0_h1 => k0_hw1.1 k0_h1
theorem k0_off5_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h1 : k0_cond1 i k0_t1 arg11_r1 = 1#1), ∀ a, (k0_off5 i arg11_r1) a + S4x4096.size a ≤ S16384x4096.size a := fun i k0_t1 arg7_r1 arg8_r1 arg9_r1 arg10_r1 arg11_r1 k0_hw1 k0_h1 => k0_hw1.2.1 k0_h1
theorem k0_off6_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h1 : k0_cond1 i k0_t1 arg11_r1 = 1#1), ∀ a, (k0_off6 arg7_r1) a + S1.size a ≤ S2.size a := fun i k0_t1 arg7_r1 arg8_r1 arg9_r1 arg10_r1 arg11_r1 k0_hw1 k0_h1 => k0_hw1.2.2.1 k0_h1
theorem k0_off7_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i k0_t1 arg11_r1 = 1#1), ∀ a, (k0_off7 arg8_r1) a + S1x4x4096.size a ≤ S2x4x4096.size a := fun i k0_t1 arg7_r1 arg8_r1 arg9_r1 arg10_r1 arg11_r1 k0_hw1 k0_h2 => k0_hw1.2.2.2.1 k0_h2
theorem k0_off8_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i k0_t1 arg11_r1 = 1#1), ∀ a, (k0_off8 i arg11_r1) a + S4x4096.size a ≤ S16384x4096.size a := fun i k0_t1 arg7_r1 arg8_r1 arg9_r1 arg10_r1 arg11_r1 k0_hw1 k0_h2 => k0_hw1.2.2.2.2.1 k0_h2
theorem k0_off9_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i k0_t1 arg11_r1 = 1#1), ∀ a, (k0_off9 arg8_r1) a + S1.size a ≤ S2.size a := fun i k0_t1 arg7_r1 arg8_r1 arg9_r1 arg10_r1 arg11_r1 k0_hw1 k0_h2 => k0_hw1.2.2.2.2.2.1 k0_h2
theorem k0_off23_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h5 : k0_cond5 i k0_t1 arg11_r1 = 1#1), ∀ a, (k0_off23 arg9_r1) a + S1x4x4096.size a ≤ S2x4x4096.size a := fun i k0_t1 arg7_r1 arg8_r1 arg9_r1 arg10_r1 arg11_r1 k0_hw1 k0_h5 => k0_hw1.2.2.2.2.2.2.1 k0_h5
theorem k0_off24_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h5 : k0_cond5 i k0_t1 arg11_r1 = 1#1), ∀ a, (k0_off24 i arg11_r1) a + S4x4096.size a ≤ S16384x4096.size a := fun i k0_t1 arg7_r1 arg8_r1 arg9_r1 arg10_r1 arg11_r1 k0_hw1 k0_h5 => k0_hw1.2.2.2.2.2.2.2.1 k0_h5
theorem k0_off25_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h5 : k0_cond5 i k0_t1 arg11_r1 = 1#1), ∀ a, (k0_off25 arg9_r1) a + S1.size a ≤ S2.size a := fun i k0_t1 arg7_r1 arg8_r1 arg9_r1 arg10_r1 arg11_r1 k0_hw1 k0_h5 => k0_hw1.2.2.2.2.2.2.2.2.1 k0_h5
theorem k0_off26_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h7 : k0_cond7 i k0_t1 arg11_r1 = 1#1), ∀ a, (k0_off26 arg10_r1) a + S1x4x4096.size a ≤ S2x4x4096.size a := fun i k0_t1 arg7_r1 arg8_r1 arg9_r1 arg10_r1 arg11_r1 k0_hw1 k0_h7 => k0_hw1.2.2.2.2.2.2.2.2.2.1 k0_h7
theorem k0_off27_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h7 : k0_cond7 i k0_t1 arg11_r1 = 1#1), ∀ a, (k0_off27 i arg11_r1) a + S4x4096.size a ≤ S16384x4096.size a := fun i k0_t1 arg7_r1 arg8_r1 arg9_r1 arg10_r1 arg11_r1 k0_hw1 k0_h7 => k0_hw1.2.2.2.2.2.2.2.2.2.2.1 k0_h7
theorem k0_off28_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h7 : k0_cond7 i k0_t1 arg11_r1 = 1#1), ∀ a, (k0_off28 arg10_r1) a + S1.size a ≤ S2.size a := fun i k0_t1 arg7_r1 arg8_r1 arg9_r1 arg10_r1 arg11_r1 k0_hw1 k0_h7 => k0_hw1.2.2.2.2.2.2.2.2.2.2.2 k0_h7

def k0_off29 (v33_3_r1 : BitVec 32) : Fin 3 → Nat :=
  let c2_i32_46_r1 : BitVec 32 := 2#32
  let v54_r1 : BitVec 32 := Scalar.remui v33_3_r1 c2_i32_46_r1
  let c0_i32_48_r1 : BitVec 32 := 0#32
  let c0_i32_49_r1 : BitVec 32 := 0#32
  ![v54_r1.toNat, 0, 0]

def k0_off30 (i : grid0.Coords) (v33_4_r1 : BitVec 32) : Fin 2 → Nat :=
  let c4_i32_47_r1 : BitVec 32 := 4#32
  let true_31_r1 : BitVec 1 := 1#1
  let c1_i32_30_r1 : BitVec 32 := 1#32
  let v34_r1 : BitVec 32 := Scalar.subi v33_4_r1 c1_i32_30_r1
  let v35_r1 : BitVec 32 := Scalar.select true_31_r1 v34_r1 v33_4_r1
  let c_m1_i32_32_r1 : BitVec 32 := 4294967295#32
  let v36_r1 : BitVec 1 := Scalar.cmpi .eq v35_r1 c_m1_i32_32_r1
  let c127_i32_33_r1 : BitVec 32 := 127#32
  let v37_r1 : BitVec 32 := Scalar.select v36_r1 c127_i32_33_r1 v35_r1
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v38_r1 : BitVec 32 := Scalar.addi v37_r1 v4
  let v55_r1 : BitVec 32 := Scalar.muli c4_i32_47_r1 v38_r1
  let c0_i32_50_r1 : BitVec 32 := 0#32
  ![v55_r1.toNat, 0]

def k0_chk9 (i : grid0.Coords) (v33_4_r1 : BitVec 32) : Prop :=
  (∀ a, (k0_off30 i v33_4_r1) a + S4x4096.size a ≤ S16384x4096.size a)
theorem k0_off30_inb : ∀ (i : grid0.Coords) (v33_4_r1 : BitVec 32) (k0_hw9 : k0_chk9 i v33_4_r1), ∀ a, (k0_off30 i v33_4_r1) a + S4x4096.size a ≤ S16384x4096.size a := fun i v33_4_r1 k0_hw9 => k0_hw9

def k0_off31 (v33_3_r1 : BitVec 32) : Fin 1 → Nat :=
  let c2_i32_46_r1 : BitVec 32 := 2#32
  let v54_r1 : BitVec 32 := Scalar.remui v33_3_r1 c2_i32_46_r1
  ![v54_r1.toNat]
def k0_off32 (v33_3_r1 : BitVec 32) : Fin 3 → Nat :=
  let c2_i32_46_r1 : BitVec 32 := 2#32
  let v54_r1 : BitVec 32 := Scalar.remui v33_3_r1 c2_i32_46_r1
  let c0_i32_52_r1 : BitVec 32 := 0#32
  let c0_i32_53_r1 : BitVec 32 := 0#32
  ![v54_r1.toNat, 0, 0]

def k0_chk8 (v33_3_r1 : BitVec 32) : Prop :=
  (∀ a, (k0_off29 v33_3_r1) a + S1x4x4096.size a ≤ S2x4x4096.size a) ∧
  (∀ a, (k0_off31 v33_3_r1) a + S1.size a ≤ S2.size a) ∧
  (∀ a, (k0_off32 v33_3_r1) a + S1x4x4096.size a ≤ S2x4x4096.size a)
theorem k0_off29_inb : ∀ (v33_3_r1 : BitVec 32) (k0_hw8 : k0_chk8 v33_3_r1), ∀ a, (k0_off29 v33_3_r1) a + S1x4x4096.size a ≤ S2x4x4096.size a := fun v33_3_r1 k0_hw8 => k0_hw8.1
theorem k0_off31_inb : ∀ (v33_3_r1 : BitVec 32) (k0_hw8 : k0_chk8 v33_3_r1), ∀ a, (k0_off31 v33_3_r1) a + S1.size a ≤ S2.size a := fun v33_3_r1 k0_hw8 => k0_hw8.2.1
theorem k0_off32_inb : ∀ (v33_3_r1 : BitVec 32) (k0_hw8 : k0_chk8 v33_3_r1), ∀ a, (k0_off32 v33_3_r1) a + S1x4x4096.size a ≤ S2x4x4096.size a := fun v33_3_r1 k0_hw8 => k0_hw8.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x4096 : Shape := ⟨2, ![16384, 4096]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S1x1, .i32⟩
  | .hbm, ⟨15, _⟩ => ⟨S4096x1, .i32⟩
  | .hbm, ⟨16, _⟩ => ⟨S4096x1, .i1⟩
  | .hbm, ⟨17, _⟩ => ⟨S4096x1, .i1⟩
  | .hbm, ⟨18, _⟩ => ⟨S_, .i1⟩
  | .hbm, ⟨19, _⟩ => ⟨S4096, .i1⟩
  | .hbm, ⟨20, _⟩ => ⟨S16384x4096, .f32⟩
  | .hbm, ⟨21, _⟩ => ⟨S16384x4096, .i1⟩
  | .hbm, ⟨22, _⟩ => ⟨S_, .f32⟩
  | .hbm, ⟨23, _⟩ => ⟨S16384x4096, .f32⟩
  | .hbm, ⟨24, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Words.lean ====
/-
  The words of the copy loop, in closed form. Trip `t` of the loop carries five words (which block the next inbound copy
  goes to, which slot is read, which slot is written, which outbound copy is waited for, which block is worked on); from
  them the kernel computes the slot, the row offset and the guard of each copy. Every statement here is about finitely
  many words and is decided.
-/
module

public import proofs.«01_k».proof.Proof.Gen.KernelIdeal

@[expose] public section

set_option maxRecDepth 16384

namespace Cert.KernelIdeal.Tile

open Idealize.ShloMosaic Cert.KernelIdeal Cert.KernelIdeal.Gen

/-- The outer loop makes 128 trips, … -/
theorem trips1 : k0_t1_loop.trips = 128 := by decide +kernel
/-- … the inner one 256. -/
theorem trips2 : k0_t2_loop.trips = 256 := by decide +kernel

/-- The five words trip `t` starts from. -/
def tup (t : ℕ) : BitVec 32 × BitVec 32 × BitVec 32 × BitVec 32 × BitVec 32 :=
  (BitVec.ofNat 32 (min (t + 1) 128), BitVec.ofNat 32 t, BitVec.ofNat 32 t, BitVec.ofNat 32 (t - 1), BitVec.ofNat 32 (t % 128))

/-- The tile's number times the 128 blocks it copies: its first block. -/
def base (i : grid0.Coords) : ℕ := 128 * ((i 1).val + 16 * (i 0).val)

theorem base_lt (i : grid0.Coords) : base i + 128 ≤ 4096 := by
  have h0 : (i 0).val < 2 := (i 0).isLt
  have h1 : (i 1).val < 16 := (i 1).isLt
  unfold base; omega

/-! ## The slots -/

/-- Of the first 129 words, the remainder by two is the number's. -/
theorem rem2 : ∀ t : Fin 129, (Scalar.remui (BitVec.ofNat 32 t.val) 2#32).toNat = t.val % 2 := by decide +kernel

theorem rem2' {t : ℕ} (h : t ≤ 128) : (Scalar.remui (BitVec.ofNat 32 t) 2#32).toNat = t % 2 := rem2 ⟨t, by omega⟩

/-- A word naming a slot of a double buffer names it by parity, … -/
theorem slot_eq {t : ℕ} (h : t ≤ 128) (f : BitVec 32 → Fin 3 → ℕ) (hf : ∀ w, f w = ![(Scalar.remui w 2#32).toNat, 0, 0]) :
    f (BitVec.ofNat 32 t) = ![t % 2, 0, 0] := by rw [hf, rem2' h]
/-- … and so does one naming a semaphore of a pair. -/
theorem cell_eq {t : ℕ} (h : t ≤ 128) (f : BitVec 32 → Fin 1 → ℕ) (hf : ∀ w, f w = ![(Scalar.remui w 2#32).toNat]) :
    f (BitVec.ofNat 32 t) = ![t % 2] := by rw [hf, rem2' h]

theorem slot_inb {t : ℕ} (h : t ≤ 128) (f : BitVec 32 → Fin 3 → ℕ) (hf : ∀ w, f w = ![(Scalar.remui w 2#32).toNat, 0, 0]) :
    ∀ a, f (BitVec.ofNat 32 t) a + S1x4x4096.size a ≤ S2x4x4096.size a := by
  rw [slot_eq h f hf]; intro a
  match a with
  | 0 => show t % 2 + 1 ≤ 2; omega
  | 1 => show 0 + 4 ≤ 4; omega
  | 2 => show 0 + 4096 ≤ 4096; omega

theorem cell_inb {t : ℕ} (h : t ≤ 128) (f : BitVec 32 → Fin 1 → ℕ) (hf : ∀ w, f w = ![(Scalar.remui w 2#32).toNat]) :
    ∀ a, f (BitVec.ofNat 32 t) a + S1.size a ≤ S2.size a := by
  rw [cell_eq h f hf]; intro a
  match a with
  | 0 => show t % 2 + 1 ≤ 2; omega

/-! ## The rows -/

/-- The next block's rows, … -/
theorem off5_eq : ∀ (i : grid0.Coords) (t : Fin 127), k0_off5 i (BitVec.ofNat 32 t.val) = ![4 * (base i + t.val + 1), 0] := by
  decide +kernel
/-- … this block's, as the inbound wait names them, … -/
theorem off8_eq : ∀ (i : grid0.Coords) (t : Fin 128), k0_off8 i (BitVec.ofNat 32 t.val) = ![4 * (base i + t.val), 0] := by
  decide +kernel
/-- … as the outbound copy does, … -/
theorem off24_eq : ∀ (i : grid0.Coords) (t : Fin 128), k0_off24 i (BitVec.ofNat 32 t.val) = ![4 * (base i + t.val), 0] := by
  decide +kernel
/-- … and the block before's, … -/
theorem off27_eq : ∀ (i : grid0.Coords) (t : Fin 127), k0_off27 i (BitVec.ofNat 32 (t.val + 1)) = ![4 * (base i + t.val), 0] := by
  decide +kernel
/-- … the last one's after the loop. -/
theorem off30_eq : ∀ i : grid0.Coords, k0_off30 i 0#32 = ![4 * (base i + 127), 0] := by decide +kernel
/-- Before the loop the first block's. -/
theorem off2_eq (i : grid0.Coords) : k0_off2 i = ![4 * (base i + 0), 0] := by
  rw [k0_off2_eq]; unfold base; congr 1; omega

theorem rows_inb {o : Fin 2 → ℕ} {n : ℕ} (h : o = ![4 * n, 0]) (hn : n < 4096) : ∀ a, o a + S4x4096.size a ≤ S16384x4096.size a := by
  subst h; intro a
  match a with
  | 0 => show 4 * n + 4 ≤ 16384; omega
  | 1 => show 0 + 4096 ≤ 4096; omega

/-! ## The guards -/

/-- Another block is fetched on every trip but the last, … -/
theorem cond1_iff : ∀ (i : grid0.Coords) (t : Fin k0_t1_loop.trips), k0_cond1 i t (BitVec.ofNat 32 t.val) = 1#1 ↔ t.val < 127 := by
  decide +kernel
/-- … every trip waits for its block, … -/
theorem cond2_true : ∀ (i : grid0.Coords) (t : Fin k0_t1_loop.trips), k0_cond2 i t (BitVec.ofNat 32 t.val) = 1#1 := by
  decide +kernel
/-- … writes its block back, … -/
theorem cond5_true : ∀ (i : grid0.Coords) (t : Fin k0_t1_loop.trips), k0_cond5 i t (BitVec.ofNat 32 t.val) = 1#1 := by
  decide +kernel
/-- … and, but for the first, waits for the write-back before. -/
theorem cond7_iff : ∀ (i : grid0.Coords) (t : Fin k0_t1_loop.trips), k0_cond7 i t (BitVec.ofNat 32 t.val) = 1#1 ↔ 0 < t.val := by
  decide +kernel

end Cert.KernelIdeal.Tile
-- ==== Proof.Base.lean ====
/-
  The setting of the proof: the resource algebra of the launch, the kernel's buffers as its memrefs name them, and the two
  kinds of pieces the kernel moves — a BLOCK of four rows of a 16384×4096 array in HBM, and a SLOT, one of the two 4×4096
  halves of a double buffer in tile memory. A block or slot is the very memref the kernel slices, at an offset in closed
  form. Where its elements sit is stated once, by coordinates.
-/
module

public import proofs.«01_k».proof.Proof.Words
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Transfers
public import Idealize.ShloMosaic.Lib.ValueIdxCore
public import Idealize.ShloMosaic.Lib.ValueLayout
public import Idealize.ShloMosaic.Lib.ViewIndex

@[expose] public section

set_option maxRecDepth 16384

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds beside the counters of the transfers. -/
abbrev UH : Type := URounds (GSem nD τ sig) ℕ
abbrev UU : Type := UH × Counters

local notation "𝕄" => MT nD τ sig (HIx 1) (Elt F) ℕ UU ℕ

/-- The handshakes' library, in the left factor. -/
abbrev EH : Emb UH (MT nD τ sig (HIx 1) (Elt F) ℕ UU ℕ) := embL

/-! ## The buffers -/

abbrev xW : Memref sig .scVector .hbm S16384x4096 .f32 := Memref.whole main_arg0_scv
abbrev pW : Memref sig .scVector .hbm S4096 .i32 := Memref.whole main_arg1_scv
abbrev oW : Memref sig .scVector .hbm S16384x4096 .f32 := Memref.whole main_v0_scv
abbrev pmW : Memref sig .scVector .vmem S4096 .i32 := Memref.whole cc0_scratch0
abbrev inW : Memref sig .scVector .vmem S2x4x4096 .f32 := Memref.whole cc0_scoped1
abbrev outW : Memref sig .scVector .vmem S2x4x4096 .f32 := Memref.whole cc0_scoped3

abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0

/-! ## Blocks, slots and their semaphores -/

theorem blk_inb (n : Fin 4096) : ∀ a, (![4 * n.val, 0] : Fin 2 → ℕ) a + S4x4096.size a ≤ S16384x4096.size a := rows_inb rfl n.isLt
theorem half_inb (t : ℕ) : ∀ a, (![t % 2, 0, 0] : Fin 3 → ℕ) a + S1x4x4096.size a ≤ S2x4x4096.size a := by
  intro a
  match a with
  | 0 => show t % 2 + 1 ≤ 2; omega
  | 1 => show 0 + 4 ≤ 4; omega
  | 2 => show 0 + 4096 ≤ 4096; omega
theorem sem_inb (t : ℕ) : ∀ a, (![t % 2] : Fin 1 → ℕ) a + S1.size a ≤ S2.size a := by
  intro a
  match a with
  | 0 => show t % 2 + 1 ≤ 2; omega

/-- Block `n` of an HBM array: rows `4n` to `4n + 3`. -/
abbrev blk (A : Memref sig .scVector .hbm S16384x4096 .f32) (n : Fin 4096) : Memref sig .scVector .hbm S4x4096 .f32 :=
  A.slice (Rect.unit (s := S16384x4096) ![4 * n.val, 0] S4x4096.size (blk_inb n)) (fun _ => rfl)
/-- The slot of trip `t`: the half of the double buffer of `t`'s parity. -/
abbrev slot (B : Memref sig .scVector .vmem S2x4x4096 .f32) (t : ℕ) : Memref sig .scVector .vmem S4x4096 .f32 :=
  (B.slice (Rect.unit (s := S2x4x4096) ![t % 2, 0, 0] S1x4x4096.size (half_inb t)) (fun _ => rfl)).squeeze S4x4096 squeezes_S1x4x4096_S4x4096
/-- The semaphore of trip `t`. -/
abbrev cell (A : DmaSems sig S2) (t : ℕ) : DmaSem sig :=
  ((A.slice (Rect.unit (s := S2) ![t % 2] S1.size (sem_inb t))).squeeze S_ squeezes_S1_S_).sem

/-- A half of a double buffer at the offset of trip `t`'s slot is that slot, … -/
theorem slot_of (B : Memref sig .scVector .vmem S2x4x4096 .f32) {t : ℕ} {o : Fin 3 → ℕ} (ho : o = ![t % 2, 0, 0])
    (h : ∀ a, o a + S1x4x4096.size a ≤ S2x4x4096.size a) :
    (B.slice (Rect.unit (s := S2x4x4096) o S1x4x4096.size h) (fun _ => rfl)).squeeze S4x4096 squeezes_S1x4x4096_S4x4096 = slot B t := by
  subst ho; rfl
/-- … one of a pair of semaphores at that of trip `t`'s its own, … -/
theorem cell_of (A : DmaSems sig S2) {t : ℕ} {o : Fin 1 → ℕ} (ho : o = ![t % 2]) (h : ∀ a, o a + S1.size a ≤ S2.size a) :
    ((A.slice (Rect.unit (s := S2) o S1.size h)).squeeze S_ squeezes_S1_S_).sem = cell A t := by
  subst ho; rfl
/-- … and four rows at the offset of block `n` that block. -/
theorem blk_of (A : Memref sig .scVector .hbm S16384x4096 .f32) {n : Fin 4096} {o : Fin 2 → ℕ} (ho : o = ![4 * n.val, 0])
    (h : ∀ a, o a + S4x4096.size a ≤ S16384x4096.size a) :
    A.slice (Rect.unit (s := S16384x4096) o S4x4096.size h) (fun _ => rfl) = blk A n := by
  subst ho; rfl

theorem slot_congr (B : Memref sig .scVector .vmem S2x4x4096 .f32) {t u : ℕ} (h : t % 2 = u % 2) : slot B t = slot B u :=
  slot_of B (by rw [h]) (half_inb t)
theorem cell_congr (A : DmaSems sig S2) {t u : ℕ} (h : t % 2 = u % 2) : cell A t = cell A u :=
  cell_of A (by rw [h]) (sem_inb t)

/-- Block `t` of the 128 a tile copies, among all of them. -/
def bk (i : grid0.Coords) (t : ℕ) : Fin 4096 := ⟨(base i + t) % 4096, Nat.mod_lt _ (by decide)⟩
theorem bk_val (i : grid0.Coords) {t : ℕ} (ht : t < 128) : (bk i t).val = base i + t :=
  Nat.mod_eq_of_lt (by have := base_lt i; omega)

/-! ## Where the elements sit -/

/-- The element `(4n + r, c)` of a 16384×4096 array. -/
def inBlk (n : Fin 4096) (y : S4x4096.Idx) : S16384x4096.Idx :=
  ix2 (⟨4 * n.val + (y 0).val, by have h : (y 0).val < 4 := (y 0).isLt; have := n.isLt; omega⟩ : Fin 16384) (y 1)

/-- Element `(r, c)` of block `n` is element `(4n + r, c)` of its array. -/
theorem blk_emb (A : Memref sig .scVector .hbm S16384x4096 .f32) (n : Fin 4096) (y : S4x4096.Idx) :
    (blk A n).view.emb y = A.view.emb (inBlk n y) := by
  show A.view.emb ((Rect.unit (s := S16384x4096) ![4 * n.val, 0] S4x4096.size (blk_inb n)).emb y) = _
  congr 1; funext a; apply Fin.ext
  match a with
  | 0 => show 4 * n.val + 1 * (y 0).val = 4 * n.val + (y 0).val; omega
  | 1 => show 0 + 1 * (y 1).val = (y 1).val; omega

/-- Element `(r, c)` of a slot is element `(slot, r, c)` of its buffer. -/
theorem slot_emb (B : Memref sig .scVector .vmem S2x4x4096 .f32) (t : ℕ) (y : S4x4096.Idx) :
    (slot B t).view.emb y = B.view.emb (ix3 ⟨t % 2, Nat.mod_lt _ (by decide)⟩ (y 0) (y 1)) := by
  show B.view.emb ((Rect.unit (s := S2x4x4096) ![t % 2, 0, 0] S1x4x4096.size (half_inb t)).emb
    (Shape.reshapeEquiv squeezes_S1x4x4096_S4x4096.numel_eq y)) = _
  congr 1
  rw [show Shape.reshapeEquiv squeezes_S1x4x4096_S4x4096.numel_eq y = ix3 (⟨0, Nat.one_pos⟩ : Fin 1) (y 0) (y 1) from
    (congrArg _ (show y = ix2 (y 0) (y 1) from funext fun a => by match a with | 0 => rfl | 1 => rfl)).trans
      (reshapeEquiv_ix2_1ab _ (y 0) (y 1))]
  funext a; apply Fin.ext
  match a with
  | 0 => show t % 2 + 1 * 0 = t % 2; omega
  | 1 => show 0 + 1 * (y 0).val = (y 0).val; omega
  | 2 => show 0 + 1 * (y 1).val = (y 1).val; omega

/-- The elements of a slot are those its number names, … -/
theorem mem_slot_in (t : ℕ) (i : S2x4x4096.Idx) : i ∈ (slot inW t).view.set ↔ (i 0).val = t % 2 := by
  constructor
  · intro h
    obtain ⟨y, -, rfl⟩ := Finset.mem_map.mp h
    rw [slot_emb]; rfl
  · intro h
    refine Finset.mem_map.mpr ⟨ix2 (i 1) (i 2), Finset.mem_univ _, ?_⟩
    rw [slot_emb]
    funext a; apply Fin.ext
    match a with
    | 0 => exact h.symm
    | 1 => rfl
    | 2 => rfl
theorem mem_slot_out (t : ℕ) (i : S2x4x4096.Idx) : i ∈ (slot outW t).view.set ↔ (i 0).val = t % 2 := mem_slot_in t i

/-- … and those of a block those whose row is one of its four. -/
theorem mem_blk_x (n : Fin 4096) (i : S16384x4096.Idx) : i ∈ (blk xW n).view.set ↔ (i 0).val / 4 = n.val := by
  constructor
  · intro h
    obtain ⟨y, -, rfl⟩ := Finset.mem_map.mp h
    rw [blk_emb]
    have h : (y 0).val < 4 := (y 0).isLt
    show (4 * n.val + (y 0).val) / 4 = n.val; omega
  · intro h
    refine Finset.mem_map.mpr ⟨ix2 (⟨(i 0).val % 4, Nat.mod_lt _ (by decide)⟩ : Fin 4) (i 1), Finset.mem_univ _, ?_⟩
    rw [blk_emb]
    funext a; apply Fin.ext
    match a with
    | 0 => show 4 * n.val + (i 0).val % 4 = (i 0).val; omega
    | 1 => rfl
theorem mem_blk_o (n : Fin 4096) (i : S16384x4096.Idx) : i ∈ (blk oW n).view.set ↔ (i 0).val / 4 = n.val := mem_blk_x n i

/-! ## The values -/

section Values

variable (X : S16384x4096.Idx → Elt F .f32) (PM : S4096.Idx → BitVec 32)

/-- Column `j` of the result is column `permutation j` of `x` (the number taken below 4096). -/
def col (y : S4096.Idx) : Fin 4096 := ⟨(PM y).toNat % 4096, Nat.mod_lt _ (by decide)⟩
/-- The result the kernel computes: `x`'s columns in the permutation's order. -/
def G : S16384x4096.Idx → Elt F .f32 := fun j => X (ix2 (j 0) (col PM (ix1 (j 1))))
/-- Block `n` of `x`, … -/
def inV (n : Fin 4096) : S4x4096.Idx → Elt F .f32 := fun y => X (inBlk n y)
/-- … and block `n` of the result. -/
def outV (n : Fin 4096) : S4x4096.Idx → Elt F .f32 := fun y => inV X n (ix2 (y 0) (col PM (ix1 (y 1))))

theorem G_inBlk (n : Fin 4096) (y : S4x4096.Idx) : G X PM (inBlk n y) = outV X PM n y := rfl

/-- What block `n` of the argument reads. -/
theorem read_blk (n : Fin 4096) : (blk xW n).view.read (Elt F) X = inV X n := by
  funext y
  rw [View.read_apply, blk_emb]; rfl

end Values

end Cert.KernelIdeal.Tile
-- ==== Proof.Steps.lean ====
/-
  One step of the kernel each, in terms of blocks and slots: the four transfers (start and end of an inbound copy, start
  and end of an outbound copy), the gather out of a slot and the store into one. What a slot holds is said by what it
  reads; the buffer's elements outside it are not spoken of.
-/
module

public import proofs.«01_k».proof.Proof.Base

@[expose] public section

set_option maxRecDepth 16384

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-- The tile at coordinates `i`. -/
abbrev th : Thread nD τ := V d ((i 0).castLE hcore0) ((i 1).castLE hsub0)

/-! ## What a tile holds -/

section Holds

variable (X : S16384x4096.Idx → Elt F .f32) (PM : S4096.Idx → BitVec 32)

/-- Block `n` of `x`. -/
def xB (n : Fin 4096) : sProp 𝕄 := (blk xW n).view.loc (th d i) ↦[(blk xW n).view.set]{fullShare} X
/-- Block `n` of the output, holding `f` there. -/
def oB (f : S16384x4096.Idx → Elt F .f32) (n : Fin 4096) : sProp 𝕄 :=
  (blk oW n).view.loc (th d i) ↦[(blk oW n).view.set]{fullShare} f
/-- A slot whose contents satisfy `p`. -/
def slotH (B : Memref sig .scVector .vmem S2x4x4096 .f32) (t : ℕ) (p : (S4x4096.Idx → Elt F .f32) → Prop) : sProp 𝕄 :=
  iprop(∃ f, ⌜p ((slot B t).view.read (Elt F) f)⌝ ∗ (slot B t).view.loc (th d i) ↦[(slot B t).view.set]{fullShare} f)
/-- A slot, whatever it holds. -/
abbrev slotA (B : Memref sig .scVector .vmem S2x4x4096 .f32) (t : ℕ) : sProp 𝕄 := slotH d i B t fun _ => True
/-- The semaphore of trip `t` of a pair, at zero. -/
def cellZ (A : DmaSems sig S2) (t : ℕ) : sProp 𝕄 := semVal (th d i, SemLoc.dma (cell A t)) 0

/-- The inbound copy of block `n` into trip `t`'s slot, under way. -/
def flyIn (t : ℕ) (n : Fin 4096) : sProp 𝕄 :=
  Transfers.Flight (countersEmb (U := UU)) (th d i) (.dma (cell cc0_scoped2 t)) (none : HIx 1) (slot inW t).view.dmaCredit
    iprop(slotH d i inW t (· = inV X n) ∗ xB d i X n)
/-- The outbound copy of block `n` of the result out of trip `t`'s slot, under way. -/
def flyOut (t : ℕ) (n : Fin 4096) : sProp 𝕄 :=
  Transfers.Flight (countersEmb (U := UU)) (th d i) (.dma (cell cc0_scoped4 t)) (none : HIx 1) (blk oW n).view.dmaCredit
    iprop(oB d i (G X PM) n ∗ slotA d i outW t)

theorem slotH_any (B : Memref sig .scVector .vmem S2x4x4096 .f32) (t : ℕ) (f : Buf (Elt F) ((slot B t).view.loc (th d i))) :
    ((slot B t).view.loc (th d i) ↦[(slot B t).view.set]{fullShare} f : sProp 𝕄) ⊢ slotA d i B t := by
  unfold slotA slotH
  iintro H
  iexists f; isplitr
  · ipureintro; trivial
  · iexact H

theorem slotH_mono {B : Memref sig .scVector .vmem S2x4x4096 .f32} {t : ℕ} {p q : (S4x4096.Idx → Elt F .f32) → Prop} (h : ∀ f, p f → q f) :
    (slotH d i B t p : sProp 𝕄) ⊢ slotH d i B t q := by
  unfold slotH
  iintro ⟨%f, %hf, H⟩
  iexists f; isplitr
  · ipureintro; exact h _ hf
  · iexact H

end Holds

/-! ## The transfers -/

section Copies

variable (X : S16384x4096.Idx → Elt F .f32) (PM : S4096.Idx → BitVec 32)
variable {Q : PUnit → sProp (MT nD τ sig (HIx 1) (Elt F) ℕ UU ℕ)}

/-- An inbound copy starts: the block and the slot are lent to it, the semaphore at zero becomes the copy under way. -/
theorem start_in {t : ℕ} {n : Fin 4096} {src : Memref sig .scVector .hbm S4x4096 .f32} {dst : Memref sig .scVector .vmem S4x4096 .f32} {sem : DmaSem sig}
    (h₁ : src = blk xW n) (h₂ : dst = slot inW t) (h₃ : sem = cell cc0_scoped2 t)
    {hs : src.view.WordExact} {hd : dst.view.WordExact} {hsem : DmaTarget.Typed (nD := nD) (p := (th d i).2) .hbm (.dma sem) (.here dst)} :
    iprop(xB d i X n ∗ slotA d i inW t ∗ cellZ d i cc0_scoped2 t)
      ⊢ iprop((flyIn d i X t n -∗ Q ⟨⟩)
        -∗ wp frame (wpE (defs₀ (F := F)) 𝒱₀ (th d i) none) Set.univ
          (Prog.lift (TpuEff.enqueueDma (p := (th d i).2) src (.here dst) (.dma sem) hs hd hsem)) Q) := by
  subst h₁ h₂ h₃
  unfold slotA slotH xB cellZ
  iintro ⟨Hx, ⟨%f, -, Hs⟩, Hc⟩ Hk
  iapply (Transfers.wp_dmaLocal (countersEmb (U := UU)) 𝒱₀ (th d i) none (none : HIx 1) _ rfl
    (View.dmaCredit_pos _ (by decide)) (Finset.Subset.refl _)) $$ [Hx Hs Hc]
  · isplitl [Hx]; · iexact Hx
    isplitl [Hs]; · iexact Hs
    iexact Hc
  iintro HF
  iapply le_wp_ret
  iapply Hk
  unfold flyIn
  iapply (Transfers.Flight_mono (countersEmb (U := UU)) (th d i) ?_) $$ HF
  iintro ⟨Hs, Hx⟩
  unfold slotH xB
  isplitl [Hs]
  · iexists _; isplitr
    rotate_left
    · iexact Hs
    · ipureintro
      rw [View.read_write_univ]
      exact read_blk X n
  · iexact Hx

/-- What the tile owes, and the waits it has recorded: those it came with and its own. -/
def owesW (O : CellTallies nD τ sig (HIx 1)) (W : Waits sig (HIx 1)) : sProp 𝕄 :=
  iprop(∃ W', ⌜∀ p ∈ W', p ∈ W ∨ p.2 = none⌝ ∗ owes (th d i) O W')

omit [FloatOps F] in
theorem owesW_insert (O : CellTallies nD τ sig (HIx 1)) {W W' : Waits sig (HIx 1)} (h : ∀ p ∈ W', p ∈ W ∨ p.2 = none) (sm : SemLoc sig) :
    (owes (th d i) O (insert (sm, (none : HIx 1)) W') : sProp 𝕄) ⊢ iprop(∃ W', ⌜∀ p ∈ W', p ∈ W ∨ p.2 = none⌝ ∗ owes (th d i) O W') := by
  iintro H
  iexists _; isplitr
  rotate_left
  · iexact H
  · ipureintro; intro p hp
    rcases Finset.mem_insert.mp hp with hp | hp
    · exact .inr (hp ▸ rfl)
    · exact h p hp

/-- The wait for an inbound copy hands back the slot holding the block, and the block. -/
theorem wait_in {t : ℕ} {n : Fin 4096} (O : CellTallies nD τ sig (HIx 1)) (W : Waits sig (HIx 1))
    {src : Memref sig .scVector .hbm S4x4096 .f32} {dst : Memref sig .scVector .vmem S4x4096 .f32} {sem : DmaSem sig}
    (h₂ : dst = slot inW t) (h₃ : sem = cell cc0_scoped2 t)
    {hs : src.view.WordExact} {hd : dst.view.WordExact} :
    iprop(Transfers.MayWaits (th d i) (none : HIx 1) O ∗ flyIn d i X t n ∗ owesW d i O W)
      ⊢ iprop((slotH d i inW t (· = inV X n) -∗ xB d i X n -∗ cellZ d i cc0_scoped2 t -∗ owesW d i O W -∗ Q ⟨⟩)
        -∗ wp frame (wpE (defs₀ (F := F)) 𝒱₀ (th d i) none) Set.univ
          (Prog.lift (TpuEff.waitDma2 (p := (th d i).2) sem src dst hs hd)) Q) := by
  subst h₂ h₃
  unfold flyIn owesW cellZ
  iintro ⟨#Hmw, HF, %W', %hW', HO⟩ Hk
  iapply (Transfers.wp_waitLocalO (countersEmb (U := UU)) 𝒱₀ (th d i) none (none : HIx 1) rfl) $$ [HF HO]
  · isplitl [HF]; · iexact HF
    isplitl [HO]; · iexact HO
    iapply (Transfers.MayWaits.elim (SemLoc.dma (cell cc0_scoped2 t))); iexact Hmw
  iintro ⟨⟨Hs, Hx⟩, Hc, HO⟩
  iapply le_wp_ret
  iapply Hk $$ Hs Hx Hc
  iapply (owesW_insert d i O hW' _) $$ HO

/-- What an outbound copy leaves in its block, read as the result. -/
theorem oB_of_write {n : Fin 4096} {f : S16384x4096.Idx → Elt F .f32} {w : S4x4096.Idx → Elt F .f32} (hw : w = outV X PM n) :
    oB d i ((blk oW n).view.write (Elt F) f w Finset.univ) n = oB d i (G X PM) n := by
  unfold oB
  refine pointsTo_congr fun j hj => ?_
  obtain ⟨y, -, rfl⟩ := Finset.mem_map.mp hj
  refine View.eq_of_read_eq ?_
  rw [View.read_write_univ, hw, View.read_apply, blk_emb]; rfl

/-- An outbound copy of a slot that holds block `n` of the result starts: at its end the block holds the result. -/
theorem start_out {t : ℕ} {n : Fin 4096} {f : S16384x4096.Idx → Elt F .f32}
    {src : Memref sig .scVector .vmem S4x4096 .f32} {dst : Memref sig .scVector .hbm S4x4096 .f32} {sem : DmaSem sig}
    (h₁ : src = slot outW t) (h₂ : dst = blk oW n) (h₃ : sem = cell cc0_scoped4 t)
    {hs : src.view.WordExact} {hd : dst.view.WordExact} {hsem : DmaTarget.Typed (nD := nD) (p := (th d i).2) .vmem (.dma sem) (.here dst)} :
    iprop(oB d i f n ∗ slotH d i outW t (· = outV X PM n) ∗ cellZ d i cc0_scoped4 t)
      ⊢ iprop((flyOut d i X PM t n -∗ Q ⟨⟩)
        -∗ wp frame (wpE (defs₀ (F := F)) 𝒱₀ (th d i) none) Set.univ
          (Prog.lift (TpuEff.enqueueDma (p := (th d i).2) src (.here dst) (.dma sem) hs hd hsem)) Q) := by
  subst h₁ h₂ h₃
  unfold slotH oB cellZ
  iintro ⟨Ho, ⟨%g, %hg, Hs⟩, Hc⟩ Hk
  iapply (Transfers.wp_dmaLocal (countersEmb (U := UU)) 𝒱₀ (th d i) none (none : HIx 1) _ rfl
    (View.dmaCredit_pos _ (by decide)) (Finset.Subset.refl _)) $$ [Ho Hs Hc]
  · isplitl [Hs]; · iexact Hs
    isplitl [Ho]; · iexact Ho
    iexact Hc
  iintro HF
  iapply le_wp_ret
  iapply Hk
  unfold flyOut
  iapply (Transfers.Flight_mono (countersEmb (U := UU)) (th d i) ?_) $$ HF
  iintro ⟨Ho, Hs⟩
  isplitl [Ho]
  · iapply (Entails.of_eq (oB_of_write d i X PM hg)); unfold oB; iexact Ho
  · iapply (slotH_any d i outW t g)
    iexact Hs

/-- The wait for an outbound copy hands back the block holding the result, and the slot. -/
theorem wait_out {t : ℕ} {n : Fin 4096} (O : CellTallies nD τ sig (HIx 1)) (W : Waits sig (HIx 1))
    {src : Memref sig .scVector .vmem S4x4096 .f32} {dst : Memref sig .scVector .hbm S4x4096 .f32} {sem : DmaSem sig}
    (h₂ : dst = blk oW n) (h₃ : sem = cell cc0_scoped4 t)
    {hs : src.view.WordExact} {hd : dst.view.WordExact} :
    iprop(Transfers.MayWaits (th d i) (none : HIx 1) O ∗ flyOut d i X PM t n ∗ owesW d i O W)
      ⊢ iprop((oB d i (G X PM) n -∗ slotA d i outW t -∗ cellZ d i cc0_scoped4 t -∗ owesW d i O W -∗ Q ⟨⟩)
        -∗ wp frame (wpE (defs₀ (F := F)) 𝒱₀ (th d i) none) Set.univ
          (Prog.lift (TpuEff.waitDma2 (p := (th d i).2) sem src dst hs hd)) Q) := by
  subst h₂ h₃
  unfold flyOut owesW cellZ
  iintro ⟨#Hmw, HF, %W', %hW', HO⟩ Hk
  iapply (Transfers.wp_waitLocalO (countersEmb (U := UU)) 𝒱₀ (th d i) none (none : HIx 1) rfl) $$ [HF HO]
  · isplitl [HF]; · iexact HF
    isplitl [HO]; · iexact HO
    iapply (Transfers.MayWaits.elim (SemLoc.dma (cell cc0_scoped4 t))); iexact Hmw
  iintro ⟨⟨Ho, Hs⟩, Hc, HO⟩
  iapply le_wp_ret
  iapply Hk $$ Ho Hs Hc
  iapply (owesW_insert d i O hW' _) $$ HO

end Copies

/-! ## The gather and the store -/

section Gather

variable {p : (S4x4096.Idx → Elt F .f32) → Prop}

/-- A gather out of a slot that holds `v` gives `v` at the named indices. -/
theorem gather {t : ℕ} {v : S4x4096.Idx → Elt F .f32} {base : Memref sig .scVector .vmem S4x4096 .f32} (hb : base = slot inW t)
    {idxs : Fin 2 → IVec S16 32} {h : ∀ a x, (idxs a x).toNat < S4x4096.size a} {hl : base.view.Loads} {Q : Vec F S16 .f32 → sProp 𝕄} :
    slotH d i inW t (· = v)
      ⊢ iprop((slotH d i inW t (· = v) -∗ Q (loadIdx v idxs h))
        -∗ wp frame (wpE (defs₀ (F := F)) 𝒱₀ (th d i) none) Set.univ
          (SparseCore.vectorLoadIdx (p := (th d i).2) base idxs h hl) Q) := by
  subst hb
  unfold slotH SparseCore.vectorLoadIdx
  iintro ⟨%f, %hf, Hs⟩ Hk
  iapply (wp_load_rect 𝒱₀ (th d i) none Set.univ (m := slot inW t) (r := Rect.whole S4x4096) (S := (slot inW t).view.set) (View.set_slice_subset _ _)) $$ Hs
  iintro Hs
  iapply le_wp_ret
  rw [show ((slot inW t).access (.whole S4x4096)).read (Elt F) f = v by
    rw [← hf]; funext x
    show (slot inW t).view.read (Elt F) f ((Rect.whole S4x4096).emb x) = _
    rw [Rect.emb_whole_apply]]
  iapply Hk
  iexists f; isplitr
  · ipureintro; exact hf
  · iexact Hs

/-- A load of a slot whose value is not used. -/
theorem load_any {t : ℕ} {r : LoadRect S4x4096} {m : Memref sig .scVector .vmem S4x4096 .f32} (hm : m = slot outW t)
    {hl : m.view.LoadsAt r} {Q : (r.shape.Idx → Elt F .f32) → sProp 𝕄} :
    slotH d i outW t p
      ⊢ iprop((∀ v, slotH d i outW t p -∗ Q v)
        -∗ wp frame (wpE (defs₀ (F := F)) 𝒱₀ (th d i) none) Set.univ (Prog.lift (TpuEff.load (p := (th d i).2) m r hl)) Q) := by
  subst hm
  unfold slotH
  iintro ⟨%f, %hf, Hs⟩ Hk
  iapply (wp_load 𝒱₀ (th d i) none Set.univ (View.setOn_subset_set _ _)) $$ Hs
  iintro Hs
  iapply le_wp_ret
  iapply Hk
  iexists f; isplitr
  · ipureintro; exact hf
  · iexact Hs

/-- Contents with columns `c … c + 15` of row `ρ` replaced by the sixteen values of `w`. -/
def put (ρ c : ℕ) (w : S1x16.Idx → Elt F .f32) (g : S4x4096.Idx → Elt F .f32) : S4x4096.Idx → Elt F .f32 := fun y =>
  if h : (y 0).val = ρ ∧ c ≤ (y 1).val ∧ (y 1).val < c + 16 then w (ix2 (0 : Fin 1) (⟨(y 1).val - c, by omega⟩ : Fin 16)) else g y

omit [FloatOps F] in
/-- What a view reads after a store of sixteen values into a row. -/
theorem read_put {sg : RefSig} {κ : Kind} {sp : Space} (v : View sg κ sp S4x4096 .f32) {ρ c : ℕ} {o : Fin 2 → ℕ} (ho : o = ![ρ, c])
    {h : ∀ a, o a + S1x16.size a ≤ S4x4096.size a} (f : v.ty.Contents (Elt F)) (w : S1x16.Idx → Elt F .f32) :
    v.read (Elt F) ((v.slice (Rect.unit (s := S4x4096) o S1x16.size h)).write (Elt F) f w Finset.univ) = put ρ c w (v.read (Elt F) f) := by
  subst ho
  funext y
  unfold put
  split
  case isTrue hy =>
    have e : y = (Rect.unit (s := S4x4096) ![ρ, c] S1x16.size h).emb (ix2 (0 : Fin 1) (⟨(y 1).val - c, by omega⟩ : Fin 16)) := by
      funext a; apply Fin.ext
      match a with
      | 0 => show (y 0).val = ρ + 1 * 0; omega
      | 1 => show (y 1).val = c + 1 * ((y 1).val - c); omega
    exact (congrArg (v.read (Elt F) _) e).trans
      (View.read_write_of_mem (v := v.slice (Rect.unit (s := S4x4096) ![ρ, c] S1x16.size h)) f w (Finset.mem_univ _))
  case isFalse hy =>
    rw [View.read_apply, View.read_apply, View.write_of_not_mem]
    intro hm
    obtain ⟨x, -, hx⟩ := Finset.mem_map.mp hm
    have hx : (Rect.unit (s := S4x4096) ![ρ, c] S1x16.size h).emb x = y := v.emb.injective hx
    apply hy
    subst hx
    have h0 : (x 0).val < 1 := (x 0).isLt
    have h1 : (x 1).val < 16 := (x 1).isLt
    refine ⟨?_, ?_, ?_⟩
    · show ρ + 1 * (x 0).val = ρ; omega
    · show c ≤ c + 1 * (x 1).val; omega
    · show c + 1 * (x 1).val < c + 16; omega

/-- A store of sixteen values into a row of a slot. -/
theorem store_row {t ρ c : ℕ} {q : (S4x4096.Idx → Elt F .f32) → Prop} {w : S1x16.Idx → Elt F .f32} {o : Fin 2 → ℕ} (ho : o = ![ρ, c])
    (hq : ∀ g, p g → q (put ρ c w g)) {h : ∀ a, o a + S1x16.size a ≤ S4x4096.size a}
    {m : Memref sig .scVector .vmem S4x4096 .f32} (hm : m = slot outW t)
    {hx : (m.access (Rect.unit (s := S4x4096) o S1x16.size h)).Stores Finset.univ}
    {hmk : (Finset.univ : Finset S1x16.Idx) = Finset.univ ∨ ∀ a, (Rect.unit (s := S4x4096) o S1x16.size h).stride a = 1} {Q : PUnit → sProp 𝕄} :
    slotH d i outW t p
      ⊢ iprop((slotH d i outW t q -∗ Q ⟨⟩)
        -∗ wp frame (wpE (defs₀ (F := F)) 𝒱₀ (th d i) none) Set.univ
          (Prog.lift (TpuEff.store (p := (th d i).2) m (Rect.unit (s := S4x4096) o S1x16.size h) w Finset.univ hx hmk)) Q) := by
  subst hm
  unfold slotH
  iintro ⟨%f, %hf, Hs⟩ Hk
  iapply (wp_store 𝒱₀ (th d i) none Set.univ (m := slot outW t) (r := Rect.unit (s := S4x4096) o S1x16.size h) (S := (slot outW t).view.set) ((View.setOn_subset_set _ _).trans (View.set_slice_subset _ _))) $$ Hs
  iintro Hs
  iapply le_wp_ret
  iapply Hk
  iexists _; isplitr
  rotate_left
  · iexact Hs
  · ipureintro
    exact (read_put (slot outW t).view ho f w).symm ▸ hq _ hf

end Gather

end Cert.KernelIdeal.Tile
-- ==== Proof.Inner.lean ====
/-
  The copy loop of one block: 256 trips, each of which reads sixteen entries of the permutation and fills those columns of
  the output slot's four rows, row by row, with the entries of the input slot the permutation names. The invariant says how
  far the output slot already holds the block of the result.
-/
module

public import proofs.«01_k».proof.Proof.Steps

@[expose] public section

set_option maxRecDepth 16384

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The values of one trip -/

section Value

variable (X : S16384x4096.Idx → Elt F .f32) (PM : S4096.Idx → BitVec 32) (n : Fin 4096)

/-- A slot holds the block's result in the columns of the first `j` trips and, of trip `j`'s sixteen columns, in the first `r` rows. -/
def Filled (j r : ℕ) (g : S4x4096.Idx → Elt F .f32) : Prop :=
  ∀ y : S4x4096.Idx, (y 1).val < 16 * j ∨ ((y 1).val < 16 * (j + 1) ∧ (y 0).val < r) → g y = outV X PM n y

/-- The sixteen entries of the permutation trip `j` reads. -/
def perm16 (j : Fin k0_t2_loop.trips) : IVec S16 32 := fun x =>
  PM (ix1 (⟨16 * j.val + (x 0).val, by have h : (x 0).val < 16 := (x 0).isLt; have := j.isLt; have := trips2; omega⟩ : Fin 4096))

/-- Those entries index inside a slot, in any of its rows. -/
theorem perm16_inb (hPM : ∀ y, (PM y).toNat < 4096) (j : Fin k0_t2_loop.trips) {w : BitVec 32} (hw : w.toNat < 4) :
    ∀ a x, ((![broadcast S16 w, perm16 PM j] : Fin 2 → IVec S16 32) a x).toNat < S4x4096.size a := by
  intro a x
  match a with
  | 0 => exact hw
  | 1 => exact hPM _

variable {X PM n}

/-- Storing the gathered entries of row `r` fills that row of the trip's columns. -/
theorem filled_row (hPM : ∀ y, (PM y).toNat < 4096) {j : Fin k0_t2_loop.trips} {r : ℕ} {w : BitVec 32} (hr : w.toNat = r)
    (hb : ∀ a x, ((![broadcast S16 w, perm16 PM j] : Fin 2 → IVec S16 32) a x).toNat < S4x4096.size a)
    {g : S4x4096.Idx → Elt F .f32} (hg : Filled X PM n j.val r g) :
    Filled X PM n j.val (r + 1)
      (put r (16 * j.val) (shapeCast S1x16 (loadIdx (inV X n) ![broadcast S16 w, perm16 PM j] hb) shapeCasts_S16_S1x16) g) := by
  intro y hy
  unfold put
  split
  case isTrue h =>
    refine (shapeCast_a_1a_apply _ _ _ _).trans ?_
    unfold loadIdx outV
    refine congrArg (inV X n) ?_
    funext a; apply Fin.ext
    match a with
    | 0 => show w.toNat = (y 0).val; omega
    | 1 =>
      show (PM (ix1 _)).toNat = (PM (ix1 (y 1))).toNat % 4096
      rw [Nat.mod_eq_of_lt (hPM _)]
      congr 2; funext b; apply Fin.ext
      match b with
      | 0 => show 16 * j.val + ((y 1).val - 16 * j.val) = (y 1).val; omega
  case isFalse h => exact hg y (by omega)

/-- Four rows filled are the trip's columns filled, … -/
theorem filled_next {j : ℕ} {g : S4x4096.Idx → Elt F .f32} (hg : Filled X PM n j 4 g) : Filled X PM n (j + 1) 0 g := fun y hy =>
  hg y (by have h : (y 0).val < 4 := (y 0).isLt; omega)
/-- … and after 256 trips the slot holds the block of the result. -/
theorem filled_all {g : S4x4096.Idx → Elt F .f32} (hg : Filled X PM n k0_t2_loop.trips 0 g) : g = outV X PM n := funext fun y =>
  hg y (.inl (by have h : (y 1).val < 4096 := (y 1).isLt; rw [trips2]; omega))
theorem filled_none (g : S4x4096.Idx → Elt F .f32) : Filled X PM n 0 0 g := fun y hy => by omega

end Value

/-! ## One trip -/

section Trip

variable [FloatOps F] (d : Dev nD) (i : grid0.Coords)
variable (X : S16384x4096.Idx → Elt F .f32) (PM : S4096.Idx → BitVec 32) (n : Fin 4096)

/-- The tile's copy of the permutation. -/
def permH : sProp 𝕄 := pmW.view.loc (th d i) ↦[pmW.view.set]{fullShare} (PM : S4096.Idx → Elt F .i32)

/-- The load of trip `j`'s sixteen entries. -/
theorem load_perm {j : Fin k0_t2_loop.trips} {h : ∀ a, k0_off10 j a + S16.size a ≤ S4096.size a}
    {hl : pmW.view.LoadsAt (Rect.unit (s := S4096) (k0_off10 j) S16.size h).toLoadRect} {Q : Vec F S16 .i32 → sProp 𝕄} :
    permH d i PM
      ⊢ iprop((permH d i PM -∗ Q (perm16 PM j))
        -∗ wp frame (wpE (defs₀ (F := F)) 𝒱₀ (th d i) none) Set.univ
          (Prog.lift (TpuEff.load (p := (th d i).2) pmW (Rect.unit (s := S4096) (k0_off10 j) S16.size h).toLoadRect hl)) Q) := by
  unfold permH
  iintro Hs Hk
  iapply (wp_load 𝒱₀ (th d i) none Set.univ (m := pmW) (S := pmW.view.set) (View.setOn_subset_set _ _)) $$ Hs
  iintro Hs
  iapply le_wp_ret
  rw [show pmW.view.readAt (Elt F) (Rect.unit (s := S4096) (k0_off10 j) S16.size h).toLoadRect (PM : S4096.Idx → Elt F .i32) = perm16 PM j from
    funext fun x => congrArg PM (by
      funext a; apply Fin.ext
      match a with
      | 0 =>
        show k0_off10 j 0 + 1 * (x 0).val = 16 * j.val + (x 0).val
        have e : k0_off10 j 0 = 16 * j.val := congrFun (k0_off10_eq j) 0
        omega)]
  iapply Hk
  iexact Hs

/-- An assumption of the program that holds. -/
theorem assume_of {P : Prop} {dec : Decidable P} (h : P) {Q : PLift P → sProp 𝕄} :
    Q ⟨h⟩ ⊢ wp frame (wpE (defs₀ (F := F)) 𝒱₀ (th d i) none) Set.univ (Prog.lift (TpuEff.assume (p := (th d i).2) P dec)) Q := by
  rw [show (Prog.lift (TpuEff.assume (p := (th d i).2) P dec) : Prog (TpuEff nD τ sig (Elt F) Λ₀ (th d i).2) (PLift P)) = .op (.assume P dec) .ret from rfl,
    wp_assume_of (Q := Q) 𝒱₀ (th d i) none Set.univ h]
  iintro H
  iapply le_wp_ret
  iexact H

/-- One trip of the copy loop: the input slot and the permutation are read, sixteen more columns of the output slot are filled. -/
theorem trip (hPM : ∀ y, (PM y).toNat < 4096) {t : ℕ} (ht : t ≤ 128) (k0_t1 : Fin k0_t1_loop.trips) (a7 a10 a11 : BitVec 32)
    (hw4 : k0_chk4 (BitVec.ofNat 32 t)) (hw2 : k0_chk2 (BitVec.ofNat 32 t))
    (hw1 : k0_chk1 i k0_t1 a7 (BitVec.ofNat 32 t) (BitVec.ofNat 32 t) a10 a11)
    (a6 : BitVec 32) (v64 v65 : BitVec 1) (v66 v71 v76 : BitVec 32) (v96 : BitVec 1) (j : Fin k0_t2_loop.trips) (u : Unit) :
    iprop(permH d i PM ∗ slotH d i inW t (· = inV X n) ∗ slotH d i outW t (Filled X PM n j.val 0))
      ⊢ wp frame (wpE (defs₀ (F := F)) 𝒱₀ (th d i) none) Set.univ
        (k0_t2_body (F := F) i xW (Memref.isWhole_whole _) pW (Memref.isWhole_whole _) oW (Memref.isWhole_whole _) pmW (Memref.isWhole_whole _)
          cc0_scoped0 inW (Memref.isWhole_whole _) cc0_scoped2 outW (Memref.isWhole_whole _) cc0_scoped4
          k0_t1 a7 (BitVec.ofNat 32 t) (BitVec.ofNat 32 t) a10 a11 hw4 hw2 hw1 a6 v64 v65 v66 v71 v76 v96 j u)
        fun _ => iprop(permH d i PM ∗ slotH d i inW t (· = inV X n) ∗ slotH d i outW t (Filled X PM n (j.val + 1) 0)) := by
  unfold k0_t2_body
  rw [k0_part1_eq_skeleton]
  unfold k0_part1_skel
  simp only [wp_bind]
  iintro ⟨Hp, Hi, Ho⟩
  iapply (load_perm d i PM) $$ Hp; iintro Hp
  iapply (assume_of d i (perm16_inb PM hPM j (w := 0#32) (by decide)))
  iapply (gather d i (slot_of inW (slot_eq ht k0_off11 fun _ => rfl) _)) $$ Hi; iintro Hi
  iapply (load_any d i (slot_of outW (slot_eq ht k0_off12 fun _ => rfl) _)) $$ Ho; iintro %_ Ho
  iapply (store_row d i (k0_off13_eq j) (fun g hg => filled_row hPM (r := 0) (w := 0#32) rfl _ hg) (slot_of outW (slot_eq ht k0_off12 fun _ => rfl) _)) $$ Ho; iintro Ho
  iapply (assume_of d i (perm16_inb PM hPM j (w := 1#32) (by decide)))
  iapply (gather d i (slot_of inW (slot_eq ht k0_off14 fun _ => rfl) _)) $$ Hi; iintro Hi
  iapply (load_any d i (slot_of outW (slot_eq ht k0_off15 fun _ => rfl) _)) $$ Ho; iintro %_ Ho
  iapply (store_row d i (k0_off16_eq j) (fun g hg => filled_row hPM (r := 1) (w := 1#32) rfl _ hg) (slot_of outW (slot_eq ht k0_off15 fun _ => rfl) _)) $$ Ho; iintro Ho
  iapply (assume_of d i (perm16_inb PM hPM j (w := 2#32) (by decide)))
  iapply (gather d i (slot_of inW (slot_eq ht k0_off17 fun _ => rfl) _)) $$ Hi; iintro Hi
  iapply le_wp_ret
  iapply (load_any d i (slot_of outW (slot_eq ht k0_off18 fun _ => rfl) _)) $$ Ho; iintro %_ Ho
  iapply (store_row d i (k0_off19_eq j) (fun g hg => filled_row hPM (r := 2) (w := 2#32) rfl _ hg) (slot_of outW (slot_eq ht k0_off18 fun _ => rfl) _)) $$ Ho; iintro Ho
  iapply (assume_of d i (perm16_inb PM hPM j (w := 3#32) (by decide)))
  iapply (gather d i (slot_of inW (slot_eq ht k0_off20 fun _ => rfl) _)) $$ Hi; iintro Hi
  iapply (load_any d i (slot_of outW (slot_eq ht k0_off21 fun _ => rfl) _)) $$ Ho; iintro %_ Ho
  iapply (store_row d i (k0_off22_eq j) (fun g hg => filled_row hPM (r := 3) (w := 3#32) rfl _ hg) (slot_of outW (slot_eq ht k0_off21 fun _ => rfl) _)) $$ Ho; iintro Ho
  iapply le_wp_ret
  isplitl [Hp]; · iexact Hp
  isplitl [Hi]; · iexact Hi
  iapply (slotH_mono d i fun _ h => filled_next h) $$ Ho

/-- The whole copy loop: the output slot ends holding the block of the result. -/
theorem copy_loop (hPM : ∀ y, (PM y).toNat < 4096) {t : ℕ} (ht : t ≤ 128) (k0_t1 : Fin k0_t1_loop.trips) (a7 a10 a11 : BitVec 32)
    (hw4 : k0_chk4 (BitVec.ofNat 32 t)) (hw2 : k0_chk2 (BitVec.ofNat 32 t))
    (hw1 : k0_chk1 i k0_t1 a7 (BitVec.ofNat 32 t) (BitVec.ofNat 32 t) a10 a11)
    (a6 : BitVec 32) (v64 v65 : BitVec 1) (v66 v71 v76 : BitVec 32) (v96 : BitVec 1) {Q : Unit → sProp 𝕄} :
    iprop(permH d i PM ∗ slotH d i inW t (· = inV X n) ∗ slotA d i outW t)
      ⊢ iprop((∀ u, permH d i PM -∗ slotH d i inW t (· = inV X n) -∗ slotH d i outW t (· = outV X PM n) -∗ Q u)
        -∗ wp frame (wpE (defs₀ (F := F)) 𝒱₀ (th d i) none) Set.univ
          (Scf.Loop.for k0_t2_loop k0_t2_ok ⟨⟩
            (k0_t2_body (F := F) i xW (Memref.isWhole_whole _) pW (Memref.isWhole_whole _) oW (Memref.isWhole_whole _) pmW (Memref.isWhole_whole _)
              cc0_scoped0 inW (Memref.isWhole_whole _) cc0_scoped2 outW (Memref.isWhole_whole _) cc0_scoped4
              k0_t1 a7 (BitVec.ofNat 32 t) (BitVec.ofNat 32 t) a10 a11 hw4 hw2 hw1 a6 v64 v65 v66 v71 v76 v96)) Q) := by
  iintro ⟨Hp, Hi, Ho⟩ Hk
  iapply (Scf.wp_for _ _ _ _ _ _ _ _ _
    (fun j _ => iprop(permH d i PM ∗ slotH d i inW t (· = inV X n) ∗ slotH d i outW t (Filled X PM n j 0)))
    (fun j u => trip d i X PM n hPM ht k0_t1 a7 a10 a11 hw4 hw2 hw1 a6 v64 v65 v66 v71 v76 v96 j u))
  isplitl [Hp Hi Ho]
  · isplitl [Hp]; · iexact Hp
    isplitl [Hi]; · iexact Hi
    iapply (slotH_mono d i fun g _ => filled_none g) $$ Ho
  iintro %u ⟨Hp, Hi, Ho⟩
  iapply Hk $$ Hp Hi
  iapply (slotH_mono d i fun _ h => filled_all h) $$ Ho

end Trip

end Cert.KernelIdeal.Tile
-- ==== Proof.Checks.lean ====
/-
  The kernel's index words again, by block number and trip: the bounds its slices assume, the rows its copies name, and the
  words one trip hands the next.
-/
module

public import proofs.«01_k».proof.Proof.Base

@[expose] public section

set_option maxRecDepth 16384

namespace Cert.KernelIdeal.Tile

open Cert.KernelIdeal Cert.KernelIdeal.Gen
open Idealize.ShloMosaic

/-- The word `v4` of the kernel: the number of a tile's first block. -/
abbrev baseW (i : grid0.Coords) : BitVec 32 :=
  Scalar.muli (Scalar.addi (Scalar.addi 0#32 (Scalar.muli (BitVec.ofNat 32 (i 1).val) 1#32)) (Scalar.muli (BitVec.ofNat 32 (i 0).val) 16#32)) 128#32

/-! ## Rows by block number -/

section Rows

variable (i : grid0.Coords) {t : ℕ}

theorem rows_next (h : t < 127) : k0_off5 i (BitVec.ofNat 32 t) = ![4 * (bk i (t + 1)).val, 0] := by
  rw [bk_val i (by omega)]; exact off5_eq i ⟨t, h⟩
theorem rows_wait (h : t < 128) : k0_off8 i (BitVec.ofNat 32 t) = ![4 * (bk i t).val, 0] := by
  rw [bk_val i h]; exact off8_eq i ⟨t, h⟩
theorem rows_out (h : t < 128) : k0_off24 i (BitVec.ofNat 32 t) = ![4 * (bk i t).val, 0] := by
  rw [bk_val i h]; exact off24_eq i ⟨t, h⟩
theorem rows_prev (h₀ : 0 < t) (h : t < 128) : k0_off27 i (BitVec.ofNat 32 t) = ![4 * (bk i (t - 1)).val, 0] := by
  rw [bk_val i (by omega), ← off27_eq i ⟨t - 1, by omega⟩, Nat.sub_add_cancel h₀]
theorem rows_last : k0_off30 i 0#32 = ![4 * (bk i 127).val, 0] := by
  rw [bk_val i (by omega)]; exact off30_eq i
theorem rows_first : k0_off2 i = ![4 * (bk i 0).val, 0] := by
  rw [bk_val i (by omega)]; exact off2_eq i

end Rows

/-! ## Bounds -/

theorem chk2_of {t : ℕ} (h : t ≤ 128) : k0_chk2 (BitVec.ofNat 32 t) :=
  ⟨slot_inb h k0_off11 fun _ => rfl, slot_inb h k0_off14 fun _ => rfl, slot_inb h k0_off17 fun _ => rfl, slot_inb h k0_off20 fun _ => rfl⟩
theorem chk4_of {t : ℕ} (h : t ≤ 128) : k0_chk4 (BitVec.ofNat 32 t) :=
  ⟨slot_inb h k0_off12 fun _ => rfl, slot_inb h k0_off15 fun _ => rfl, slot_inb h k0_off18 fun _ => rfl, slot_inb h k0_off21 fun _ => rfl⟩

/-- Every slice a trip takes is in bounds. -/
theorem chk1_of (i : grid0.Coords) (k : Fin k0_t1_loop.trips) :
    k0_chk1 i k (BitVec.ofNat 32 (min (k.val + 1) 128)) (BitVec.ofNat 32 k.val) (BitVec.ofNat 32 k.val) (BitVec.ofNat 32 (k.val - 1))
      (BitVec.ofNat 32 k.val) := by
  have hk : k.val < 128 := lt_of_lt_of_eq k.isLt trips1
  refine ⟨fun _ => slot_inb (by omega) k0_off4 fun _ => rfl, fun h => rows_inb (rows_next i ((cond1_iff i k).mp h)) (Fin.isLt _),
    fun _ => cell_inb (by omega) k0_off6 fun _ => rfl, fun _ => slot_inb (by omega) k0_off7 fun _ => rfl,
    fun _ => rows_inb (rows_wait i hk) (Fin.isLt _), fun _ => cell_inb (by omega) k0_off9 fun _ => rfl,
    fun _ => slot_inb (by omega) k0_off23 fun _ => rfl, fun _ => rows_inb (rows_out i hk) (Fin.isLt _),
    fun _ => cell_inb (by omega) k0_off25 fun _ => rfl, fun _ => slot_inb (by omega) k0_off26 fun _ => rfl,
    fun h => rows_inb (rows_prev i ((cond7_iff i k).mp h) hk) (Fin.isLt _), fun _ => cell_inb (by omega) k0_off28 fun _ => rfl⟩

theorem chk9_of (i : grid0.Coords) : k0_chk9 i 0#32 := rows_inb (rows_last i) (Fin.isLt _)
theorem chk8_of : k0_chk8 127#32 :=
  ⟨slot_inb (t := 127) (by omega) k0_off29 fun _ => rfl, cell_inb (t := 127) (by omega) k0_off31 fun _ => rfl,
    slot_inb (t := 127) (by omega) k0_off32 fun _ => rfl⟩

/-! ## From one trip to the next -/

/-- The five words a trip hands on, as the kernel computes them from those it was given. -/
def handOn (i : grid0.Coords) (k : Fin k0_t1_loop.trips) (a7 a8 a9 a10 a11 : BitVec 32) : BitVec 32 × BitVec 32 × BitVec 32 × BitVec 32 × BitVec 32 :=
  let a6 := Scf.iv 0#32 1#32 k
  let first := Scalar.cmpi .eq a6 0#32
  let last := Scalar.cmpi .eq a6 127#32
  let here := Scalar.addi a11 (baseW i)
  let p := Scalar.select 1#1 (Scalar.subi a11 1#32) a11
  let prev := Scalar.addi (Scalar.select (Scalar.cmpi .eq p 4294967295#32) 127#32 p) (baseW i)
  let q := Scalar.select 1#1 (Scalar.addi a11 1#32) a11
  let next := Scalar.addi (Scalar.select (Scalar.cmpi .eq q 128#32) 0#32 q) (baseW i)
  (Scalar.select (Scalar.andi (Scalar.andi (Scalar.cmpi .ne here next) (Scalar.xori (Scalar.cmpi .sge a6 127#32) 1#1)) 1#1) (Scalar.addi a7 1#32) a7,
    Scalar.select (Scalar.ori (Scalar.cmpi .ne here next) last) (Scalar.addi a8 1#32) a8,
    Scalar.select (Scalar.andi (Scalar.ori (Scalar.cmpi .ne here next) last) 1#1) (Scalar.addi a9 1#32) a9,
    Scalar.select (Scalar.andi (Scalar.andi (Scalar.cmpi .ne here prev) (Scalar.xori first 1#1)) 1#1) (Scalar.addi a10 1#32) a10,
    Scalar.select (Scalar.cmpi .eq (Scalar.select 1#1 (Scalar.addi a11 1#32) a11) 128#32) 0#32 (Scalar.select 1#1 (Scalar.addi a11 1#32) a11))

/-- They are the next trip's. -/
theorem handOn_eq : ∀ (i : grid0.Coords) (k : Fin k0_t1_loop.trips),
    handOn i k (BitVec.ofNat 32 (min (k.val + 1) 128)) (BitVec.ofNat 32 k.val) (BitVec.ofNat 32 k.val) (BitVec.ofNat 32 (k.val - 1)) (BitVec.ofNat 32 k.val)
      = tup (k.val + 1) := by
  decide +kernel

theorem tup_eq {t : ℕ} (h : t < 128) :
    tup t = (BitVec.ofNat 32 (min (t + 1) 128), BitVec.ofNat 32 t, BitVec.ofNat 32 t, BitVec.ofNat 32 (t - 1), BitVec.ofNat 32 t) := by
  unfold tup; rw [Nat.mod_eq_of_lt h]

end Cert.KernelIdeal.Tile
-- ==== Proof.Outer.lean ====
/-
  One trip of the pipeline: the next block's inbound copy is started, this block's is waited for, the block is permuted in
  tile memory, its outbound copy is started and the one before is waited for. The invariant says, at trip `t`, which blocks
  of `x` are back, which of the output are written, and which two copies are under way.
-/
module

public import proofs.«01_k».proof.Proof.Inner
public import proofs.«01_k».proof.Proof.Checks

@[expose] public section

set_option maxRecDepth 16384

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The blocks before a trip and those from it on -/

section Ranges

/-- Something for each of the first `t` blocks, … -/
def upTo (t : ℕ) (Φ : ℕ → sProp 𝕄) : sProp 𝕄 := bigSep (Finset.range t) Φ
/-- … and for each from the `t`-th on. -/
def onFrom (t : ℕ) (Φ : ℕ → sProp 𝕄) : sProp 𝕄 := bigSep (Finset.Ico t 128) Φ

variable {Φ : ℕ → sProp (MT nD τ sig (HIx 1) (Elt F) ℕ UU ℕ)}

theorem upTo_zero : upTo 0 Φ = iprop(emp) := BI.bigSep_empty
theorem upTo_succ (t : ℕ) : upTo (t + 1) Φ = iprop(Φ t ∗ upTo t Φ) := by
  unfold upTo
  rw [Finset.range_add_one]; exact SparseCore.bigSep_insert' Finset.notMem_range_self
theorem onFrom_lt {t : ℕ} (h : t < 128) : onFrom t Φ = iprop(Φ t ∗ onFrom (t + 1) Φ) := by
  unfold onFrom
  rw [show Finset.Ico t 128 = insert t (Finset.Ico (t + 1) 128) from by ext x; simp only [Finset.mem_insert, Finset.mem_Ico]; omega]
  exact SparseCore.bigSep_insert' (by simp)
theorem onFrom_ge {t : ℕ} (h : 128 ≤ t) : onFrom t Φ = iprop(emp) := by
  unfold onFrom
  rw [Finset.Ico_eq_empty (by omega)]; exact BI.bigSep_empty

end Ranges

section Trip

variable [FloatOps F] (d : Dev nD) (i : grid0.Coords)
variable (X : S16384x4096.Idx → Elt F .f32) (PM : S4096.Idx → BitVec 32)

theorem slotA_congr {B : Memref sig .scVector .vmem S2x4x4096 .f32} {t u : ℕ} (h : t % 2 = u % 2) :
    (slotA d i B t : sProp 𝕄) = slotA d i B u := by
  unfold slotA slotH; rw [slot_congr B h]
theorem cellZ_congr {A : DmaSems sig S2} {t u : ℕ} (h : t % 2 = u % 2) : (cellZ d i A t : sProp 𝕄) = cellZ d i A u := by
  unfold cellZ; rw [cell_congr A h]

/-- The inbound side as trip `t` finds it: its block's copy is under way; past the last, slot and semaphore lie idle. -/
def inP (t : ℕ) : sProp 𝕄 := if t < 128 then flyIn d i X t (bk i t) else iprop(slotA d i inW t ∗ cellZ d i cc0_scoped2 t)
/-- The outbound side: the copy of the block before is under way; at the first trip, slot and semaphore lie idle. -/
def outP (t : ℕ) : sProp 𝕄 :=
  if t = 0 then iprop(slotA d i outW 1 ∗ cellZ d i cc0_scoped4 1) else flyOut d i X PM (t - 1) (bk i (t - 1))

variable {α : Type} {R : Prog (TpuEff nD τ sig (Elt F) Λ₀ (th d i).2) α} {Q : α → sProp (MT nD τ sig (HIx 1) (Elt F) ℕ UU ℕ)}

/-- The start of the next block's inbound copy, if there is a next block, ahead of the rest `R` of the program. -/
theorem fetch_next {t : ℕ} (ht : t < 128) {c : Prop} {dc : Decidable c} (hc : c ↔ t < 127)
    {src : c → Memref sig .scVector .hbm S4x4096 .f32} {dst : c → Memref sig .scVector .vmem S4x4096 .f32} {sem : c → DmaSem sig}
    (h₁ : ∀ h, src h = blk xW (bk i (t + 1))) (h₂ : ∀ h, dst h = slot inW (t + 1)) (h₃ : ∀ h, sem h = cell cc0_scoped2 (t + 1))
    {hs : ∀ h, (src h).view.WordExact} {hd : ∀ h, (dst h).view.WordExact}
    {hsem : ∀ h, DmaTarget.Typed (nD := nD) (p := (th d i).2) .hbm (.dma (sem h)) (.here (dst h))} :
    iprop(onFrom (t + 1) (fun k => xB d i X (bk i k)) ∗ slotA d i inW (t + 1) ∗ cellZ d i cc0_scoped2 (t + 1))
      ⊢ iprop((onFrom (t + 2) (fun k => xB d i X (bk i k)) -∗ inP d i X (t + 1) -∗ wp frame (wpE (defs₀ (F := F)) 𝒱₀ (th d i) none) Set.univ R Q)
        -∗ wp frame (wpE (defs₀ (F := F)) 𝒱₀ (th d i) none) Set.univ
          (if h : c then do
            Prog.lift (TpuEff.enqueueDma (p := (th d i).2) (src h) (.here (dst h)) (.dma (sem h)) (hs h) (hd h) (hsem h))
            R
          else R) Q) := by
  by_cases h : t < 127
  · rw [dif_pos (hc.mpr h), onFrom_lt (by omega)]
    simp only [wp_bind]
    iintro ⟨⟨Hx, Hr⟩, Hs, Hc⟩ Hk
    iapply (start_in d i X (h₁ _) (h₂ _) (h₃ _)) $$ [Hx Hs Hc]
    · isplitl [Hx]; · iexact Hx
      isplitl [Hs]; · iexact Hs
      iexact Hc
    iintro HF
    iapply Hk $$ Hr
    unfold inP; rw [if_pos (by omega)]; iexact HF
  · rw [dif_neg (fun hh => h (hc.mp hh)), onFrom_ge (t := t + 1) (by omega), onFrom_ge (t := t + 2) (by omega)]
    iintro ⟨Hr, Hs, Hc⟩ Hk
    iapply Hk $$ Hr
    unfold inP; rw [if_neg (by omega)]
    isplitl [Hs]; · iexact Hs
    iexact Hc

/-- The wait for the outbound copy of the block before, if there is one, ahead of the rest `R` of the program. -/
theorem wait_prev {t : ℕ} (O : CellTallies nD τ sig (HIx 1)) (W : Waits sig (HIx 1)) {c : Prop} {dc : Decidable c} (hc : c ↔ 0 < t)
    {src : c → Memref sig .scVector .vmem S4x4096 .f32} {dst : c → Memref sig .scVector .hbm S4x4096 .f32} {sem : c → DmaSem sig}
    (h₂ : ∀ h, dst h = blk oW (bk i (t - 1))) (h₃ : ∀ h, sem h = cell cc0_scoped4 (t - 1))
    {hs : ∀ h, (src h).view.WordExact} {hd : ∀ h, (dst h).view.WordExact} :
    iprop(Transfers.MayWaits (th d i) (none : HIx 1) O ∗ outP d i X PM t ∗ upTo (t - 1) (fun k => oB d i (G X PM) (bk i k)) ∗ owesW d i O W)
      ⊢ iprop((upTo t (fun k => oB d i (G X PM) (bk i k)) -∗ slotA d i outW (t + 1) -∗ cellZ d i cc0_scoped4 (t + 1) -∗ owesW d i O W -∗ wp frame (wpE (defs₀ (F := F)) 𝒱₀ (th d i) none) Set.univ R Q)
        -∗ wp frame (wpE (defs₀ (F := F)) 𝒱₀ (th d i) none) Set.univ
          (if h : c then do
            Prog.lift (TpuEff.waitDma2 (p := (th d i).2) (sem h) (src h) (dst h) (hs h) (hd h))
            R
          else R) Q) := by
  unfold outP
  by_cases h : 0 < t
  · rw [dif_pos (hc.mpr h), if_neg (by omega)]
    simp only [wp_bind]
    iintro ⟨#Hmw, HF, Hu, HO⟩ Hk
    iapply (wait_out d i X PM O W (h₂ _) (h₃ _)) $$ [HF HO]
    · isplitr; · iexact Hmw
      isplitl [HF]; · iexact HF
      iexact HO
    iintro Ho Hs Hc HO
    rw [slotA_congr d i (show (t + 1) % 2 = (t - 1) % 2 by omega), cellZ_congr d i (show (t + 1) % 2 = (t - 1) % 2 by omega)]
    iapply Hk $$ [Ho Hu] Hs Hc HO
    conv => rhs; rw [← Nat.sub_add_cancel h, upTo_succ]
    isplitl [Ho]; · iexact Ho
    iexact Hu
  · obtain rfl : t = 0 := by omega
    rw [dif_neg (fun hh => h (hc.mp hh)), if_pos rfl]
    iintro ⟨-, ⟨Hs, Hc⟩, Hu, HO⟩ Hk
    iapply Hk $$ Hu Hs Hc HO

end Trip

end Cert.KernelIdeal.Tile
-- ==== Proof.Body.lean ====
/-
  One trip of the pipeline run through, and the loop of 128.
-/
module

public import proofs.«01_k».proof.Proof.Outer

@[expose] public section

set_option maxRecDepth 16384

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (i : grid0.Coords)
variable (X : S16384x4096.Idx → Elt F .f32) (PM : S4096.Idx → BitVec 32) (f₀ : S16384x4096.Idx → Elt F .f32)
variable (O : CellTallies nD τ sig (HIx 1)) (W : Waits sig (HIx 1))

/-- What the tile holds at trip `t`: its copy of the permutation; the blocks of `x` it has read and those it has not started
    on, the copy of block `t` being under way; the blocks of the output written and those not, the copy of block `t - 1`
    being under way; the idle slots and semaphores; what it owes. -/
def Inv (t : ℕ) : sProp 𝕄 :=
  iprop(permH d i PM
    ∗ upTo t (fun k => xB d i X (bk i k)) ∗ onFrom (t + 1) (fun k => xB d i X (bk i k))
    ∗ inP d i X t ∗ slotA d i inW (t + 1) ∗ cellZ d i cc0_scoped2 (t + 1)
    ∗ upTo (t - 1) (fun k => oB d i (G X PM) (bk i k)) ∗ onFrom t (fun k => oB d i f₀ (bk i k))
    ∗ slotA d i outW t ∗ cellZ d i cc0_scoped4 t ∗ outP d i X PM t
    ∗ owesW d i O W)

/-- Before a trip: the copy of its block is under way, and its block of the output is at hand. -/
theorem inv_open {t : ℕ} (ht : t < 128) : Inv d i X PM f₀ O W t ⊢
    iprop(permH d i PM
      ∗ upTo t (fun k => xB d i X (bk i k)) ∗ onFrom (t + 1) (fun k => xB d i X (bk i k))
      ∗ flyIn d i X t (bk i t) ∗ slotA d i inW (t + 1) ∗ cellZ d i cc0_scoped2 (t + 1)
      ∗ upTo (t - 1) (fun k => oB d i (G X PM) (bk i k)) ∗ (oB d i f₀ (bk i t) ∗ onFrom (t + 1) (fun k => oB d i f₀ (bk i k)))
      ∗ slotA d i outW t ∗ cellZ d i cc0_scoped4 t ∗ outP d i X PM t
      ∗ owesW d i O W) := by
  unfold Inv inP
  rw [if_pos ht, onFrom_lt (t := t) ht]

/-- After it: what it leaves is the invariant of the next. -/
theorem inv_close {t : ℕ} :
    iprop(permH d i PM
      ∗ (xB d i X (bk i t) ∗ upTo t (fun k => xB d i X (bk i k))) ∗ onFrom (t + 2) (fun k => xB d i X (bk i k))
      ∗ inP d i X (t + 1) ∗ slotA d i inW t ∗ cellZ d i cc0_scoped2 t
      ∗ upTo t (fun k => oB d i (G X PM) (bk i k)) ∗ onFrom (t + 1) (fun k => oB d i f₀ (bk i k))
      ∗ slotA d i outW (t + 1) ∗ cellZ d i cc0_scoped4 (t + 1) ∗ flyOut d i X PM t (bk i t)
      ∗ owesW d i O W) ⊢ Inv d i X PM f₀ O W (t + 1) := by
  unfold Inv outP
  rw [if_neg (by omega), upTo_succ, slotA_congr d i (show (t + 1 + 1) % 2 = t % 2 by omega),
    cellZ_congr d i (show (t + 1 + 1) % 2 = t % 2 by omega), Nat.add_sub_cancel]

set_option maxHeartbeats 1000000 in
/-- One trip of the pipeline takes the invariant, and the five words, one trip on. -/
theorem round (hPM : ∀ y, (PM y).toNat < 4096) (k : Fin k0_t1_loop.trips) (acc : BitVec 32 × BitVec 32 × BitVec 32 × BitVec 32 × BitVec 32) :
    iprop(Transfers.MayWaits (th d i) (none : HIx 1) O ∗ ⌜acc = tup k.val⌝ ∗ Inv d i X PM f₀ O W k.val)
      ⊢ wp frame (wpE (defs₀ (F := F)) 𝒱₀ (th d i) none) Set.univ
        (k0_t1_body (F := F) i xW (Memref.isWhole_whole _) pW (Memref.isWhole_whole _) oW (Memref.isWhole_whole _) pmW (Memref.isWhole_whole _)
          cc0_scoped0 inW (Memref.isWhole_whole _) cc0_scoped2 outW (Memref.isWhole_whole _) cc0_scoped4 (baseW i) k acc)
        fun acc => iprop(Transfers.MayWaits (th d i) (none : HIx 1) O ∗ ⌜acc = tup (k.val + 1)⌝ ∗ Inv d i X PM f₀ O W (k.val + 1)) := by
  have hk : k.val < 128 := lt_of_lt_of_eq k.isLt trips1
  iintro ⟨#Hmw, %hacc, HI⟩
  subst hacc
  rw [tup_eq hk]
  unfold k0_t1_body
  rw [k0_part2_eq_skeleton, k0_part3_eq_skeleton]
  unfold k0_part2_skel k0_part3_skel
  simp only [dif_pos (cond2_true i k), dif_pos (cond5_true i k), ite_self, wp_bind]
  ihave HI := (inv_open d i X PM f₀ O W hk) $$ HI
  icases HI with ⟨Hp, Hxu, Hxf, Hin, Hsi, Hci, Hou, ⟨Ho, Hof⟩, Hso, Hco, Hout, HO⟩
  iapply (assume_of d i (chk4_of (by omega)))
  iapply (assume_of d i (chk2_of (by omega)))
  iapply (assume_of d i (chk1_of i k))
  iapply (fetch_next d i X hk (cond1_iff i k)
    (fun h => blk_of xW (rows_next i ((cond1_iff i k).mp h)) _)
    (fun h => slot_of inW ((slot_eq (by omega) k0_off4 fun _ => rfl).trans (by rw [min_eq_left (by omega)])) _)
    (fun h => cell_of cc0_scoped2 ((cell_eq (by omega) k0_off6 fun _ => rfl).trans (by rw [min_eq_left (by omega)])) _)) $$ [Hxf Hsi Hci]
  · isplitl [Hxf]; · iexact Hxf
    isplitl [Hsi]; · iexact Hsi
    iexact Hci
  iintro Hxf Hin'
  iapply le_wp_ret
  iapply (wait_in d i X O W (slot_of inW (slot_eq (by omega) k0_off7 fun _ => rfl) _)
    (cell_of cc0_scoped2 (cell_eq (by omega) k0_off9 fun _ => rfl) _)) $$ [Hin HO]
  · isplitr; · iexact Hmw
    isplitl [Hin]; · iexact Hin
    iexact HO
  iintro Hsi Hx Hci HO
  iapply (copy_loop d i X PM (bk i k.val) hPM (t := k.val) (by omega)) $$ [Hp Hsi Hso]
  · isplitl [Hp]; · iexact Hp
    isplitl [Hsi]; · iexact Hsi
    iexact Hso
  iintro %_ Hp Hsi Hso
  iapply (start_out d i X PM (slot_of outW (slot_eq (by omega) k0_off23 fun _ => rfl) _)
    (blk_of oW (rows_out i hk) _) (cell_of cc0_scoped4 (cell_eq (by omega) k0_off25 fun _ => rfl) _)) $$ [Ho Hso Hco]
  · isplitl [Ho]; · iexact Ho
    isplitl [Hso]; · iexact Hso
    iexact Hco
  iintro HF
  iapply le_wp_ret
  iapply (wait_prev d i X PM O W (cond7_iff i k)
    (fun h => blk_of oW (rows_prev i ((cond7_iff i k).mp h) hk) _)
    (fun h => cell_of cc0_scoped4 (cell_eq (by omega) k0_off28 fun _ => rfl) _)) $$ [Hout Hou HO]
  · isplitr; · iexact Hmw
    isplitl [Hout]; · iexact Hout
    isplitl [Hou]; · iexact Hou
    iexact HO
  iintro Hou Hso Hco HO
  iapply le_wp_ret
  isplitr; · iexact Hmw
  isplitr
  · ipureintro; exact handOn_eq i k
  iapply (inv_close d i X PM f₀ O W)
  isplitl [Hp]; · iexact Hp
  isplitl [Hx Hxu]
  · isplitl [Hx]; · iexact Hx
    iexact Hxu
  isplitl [Hxf]; · iexact Hxf
  isplitl [Hin']; · iexact Hin'
  isplitl [Hsi]; · iapply (slotH_mono d i fun _ _ => trivial) $$ Hsi
  isplitl [Hci]; · iexact Hci
  isplitl [Hou]; · iexact Hou
  isplitl [Hof]; · iexact Hof
  isplitl [Hso]; · iexact Hso
  isplitl [Hco]; · iexact Hco
  isplitl [HF]; · iexact HF
  iexact HO

end Cert.KernelIdeal.Tile
-- ==== Proof.Task.lean ====
/-
  One tile's task from its resources to what it leaves: the permutation is copied to tile memory, the pipeline runs over the
  tile's 128 blocks, the last outbound copy is waited for.
-/
module

public import proofs.«01_k».proof.Proof.Body

@[expose] public section

set_option maxRecDepth 16384

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (i : grid0.Coords)
variable (X : S16384x4096.Idx → Elt F .f32) (PM : S4096.Idx → BitVec 32) (f₀ : S16384x4096.Idx → Elt F .f32)
variable (O : CellTallies nD τ sig (HIx 1)) (W : Waits sig (HIx 1))

/-- A tile's share of the permutation in HBM. -/
def permSrc (q : PosShare TreeShare) : sProp 𝕄 := pW.view.loc (th d i) ↦[pW.view.set]{q} (PM : S4096.Idx → Elt F .i32)
/-- The tile's buffer for the permutation, whatever it holds. -/
def permAny : sProp 𝕄 := iprop(∃ f, pmW.view.loc (th d i) ↦[pmW.view.set]{fullShare} f)
/-- The semaphore of the permutation's copy, at zero. -/
def permZ : sProp 𝕄 := semVal (th d i, SemLoc.dma cc0_scoped0.sem) 0

/-- What the copy of the permutation leaves in the tile's buffer. -/
theorem permH_of_write (f : pmW.view.ty.Contents (Elt F)) :
    (pmW.view.loc (th d i) ↦[pmW.view.set]{fullShare} pmW.view.write (Elt F) f (pW.view.read (Elt F) (PM : S4096.Idx → Elt F .i32)) Finset.univ : sProp 𝕄)
      = permH d i PM := by
  unfold permH
  refine pointsTo_congr fun j hj => ?_
  obtain ⟨y, -, rfl⟩ := Finset.mem_map.mp hj
  refine View.eq_of_read_eq ?_
  rw [View.read_write_univ]; rfl

/-- The copy of the permutation to tile memory, started and waited for. -/
theorem fetch_perm {q : PosShare TreeShare} {Q : PUnit → sProp 𝕄}
    {hs : pW.view.WordExact} {hd : pmW.view.WordExact} {hsem : DmaTarget.Typed (nD := nD) (p := (th d i).2) .hbm (.dma cc0_scoped0.sem) (.here pmW)}
    {hs' : pW.view.WordExact} {hd' : pmW.view.WordExact} :
    iprop(Transfers.MayWaits (th d i) (none : HIx 1) O ∗ permSrc d i PM q ∗ permAny d i ∗ permZ d i ∗ owesW d i O W)
      ⊢ iprop((permSrc d i PM q -∗ permH d i PM -∗ permZ d i -∗ owesW d i O W -∗ Q ⟨⟩)
        -∗ wp frame (wpE (defs₀ (F := F)) 𝒱₀ (th d i) none) Set.univ
          (Prog.lift (TpuEff.enqueueDma (p := (th d i).2) pW (.here pmW) (.dma cc0_scoped0.sem) hs hd hsem))
          fun _ => wp frame (wpE (defs₀ (F := F)) 𝒱₀ (th d i) none) Set.univ
            (Prog.lift (TpuEff.waitDma2 (p := (th d i).2) cc0_scoped0.sem pW pmW hs' hd')) Q) := by
  unfold permSrc permAny permZ owesW
  iintro ⟨#Hmw, Hp, ⟨%f, Hs⟩, Hc, %W', %hW', HO⟩ Hk
  iapply (Transfers.wp_dmaLocal (countersEmb (U := UU)) 𝒱₀ (th d i) none (none : HIx 1) _ rfl
    (View.dmaCredit_pos _ (by decide)) (Finset.Subset.refl _)) $$ [Hp Hs Hc]
  · isplitl [Hp]; · iexact Hp
    isplitl [Hs]; · iexact Hs
    iexact Hc
  iintro HF
  iapply le_wp_ret
  iapply (Transfers.wp_waitLocalO (countersEmb (U := UU)) 𝒱₀ (th d i) none (none : HIx 1) rfl) $$ [HF HO]
  · isplitl [HF]; · iexact HF
    isplitl [HO]; · iexact HO
    iapply (Transfers.MayWaits.elim (SemLoc.dma cc0_scoped0.sem)); iexact Hmw
  iintro ⟨⟨Hs, Hp⟩, Hc, HO⟩
  iapply le_wp_ret
  iapply Hk $$ Hp [Hs] Hc
  · iapply (Entails.of_eq (permH_of_write d i PM _)) $$ Hs
  iapply (owesW_insert d i O hW' _) $$ HO

/-- A tile's slots and their semaphores, idle. -/
def idle : sProp 𝕄 :=
  iprop((slotA d i inW 0 ∗ slotA d i inW 1) ∗ (slotA d i outW 0 ∗ slotA d i outW 1)
    ∗ (cellZ d i cc0_scoped2 0 ∗ cellZ d i cc0_scoped2 1) ∗ (cellZ d i cc0_scoped4 0 ∗ cellZ d i cc0_scoped4 1))

/-- The pipeline's loop, from the first block's copy under way to the last one's. -/
theorem pipeline (hPM : ∀ y, (PM y).toNat < 4096) {Q : BitVec 32 × BitVec 32 × BitVec 32 × BitVec 32 × BitVec 32 → sProp 𝕄} :
    iprop(Transfers.MayWaits (th d i) (none : HIx 1) O ∗ Inv d i X PM f₀ O W 0)
      ⊢ iprop((Inv d i X PM f₀ O W 128 -∗ Q (tup 128))
        -∗ wp frame (wpE (defs₀ (F := F)) 𝒱₀ (th d i) none) Set.univ
          (Scf.Loop.for k0_t1_loop k0_t1_ok (tup 0)
            (k0_t1_body (F := F) i xW (Memref.isWhole_whole _) pW (Memref.isWhole_whole _) oW (Memref.isWhole_whole _) pmW (Memref.isWhole_whole _)
              cc0_scoped0 inW (Memref.isWhole_whole _) cc0_scoped2 outW (Memref.isWhole_whole _) cc0_scoped4 (baseW i))) Q) := by
  iintro ⟨#Hmw, HI⟩ Hk
  iapply (Scf.wp_for _ _ _ _ _ _ _ _ _
    (fun t acc => iprop(Transfers.MayWaits (th d i) (none : HIx 1) O ∗ ⌜acc = tup t⌝ ∗ Inv d i X PM f₀ O W t))
    (fun k acc => round d i X PM f₀ O W hPM k acc))
  isplitl [HI]
  · isplitr; · iexact Hmw
    isplitr
    · ipureintro; rfl
    iexact HI
  iintro %acc ⟨-, %hacc, HI⟩
  subst hacc
  rw [show Scf.trips k0_t1_loop.lb k0_t1_loop.ub k0_t1_loop.st = 128 from trips1]
  iapply Hk $$ HI

/-- At the first trip: the first block's copy is under way, everything else lies idle. -/
theorem inv_start :
    iprop(permH d i PM ∗ flyIn d i X 0 (bk i 0) ∗ onFrom 1 (fun k => xB d i X (bk i k)) ∗ onFrom 0 (fun k => oB d i f₀ (bk i k))
      ∗ slotA d i inW 1 ∗ (slotA d i outW 0 ∗ slotA d i outW 1) ∗ cellZ d i cc0_scoped2 1 ∗ (cellZ d i cc0_scoped4 0 ∗ cellZ d i cc0_scoped4 1)
      ∗ owesW d i O W) ⊢ Inv d i X PM f₀ O W 0 := by
  unfold Inv inP outP
  rw [if_pos (by omega), if_pos rfl, upTo_zero, show 0 - 1 = 0 from rfl, upTo_zero]
  iintro ⟨Hp, HF, Hx, Ho, Hs, ⟨Ht, Hu⟩, Hc, ⟨He, Hg⟩, HO⟩
  isplitl [Hp]; · iexact Hp
  isplitr; · iempintro
  isplitl [Hx]; · iexact Hx
  isplitl [HF]; · iexact HF
  isplitl [Hs]; · iexact Hs
  isplitl [Hc]; · iexact Hc
  isplitr; · iempintro
  isplitl [Ho]; · iexact Ho
  isplitl [Ht]; · iexact Ht
  isplitl [He]; · iexact He
  isplitr [HO]
  · isplitl [Hu]; · iexact Hu
    iexact Hg
  iexact HO

/-- After the last trip: only the last outbound copy is under way. -/
theorem inv_end :
    Inv d i X PM f₀ O W 128 ⊢ iprop(permH d i PM ∗ upTo 128 (fun k => xB d i X (bk i k)) ∗ upTo 127 (fun k => oB d i (G X PM) (bk i k))
      ∗ (slotA d i inW 0 ∗ slotA d i inW 1) ∗ slotA d i outW 0 ∗ (cellZ d i cc0_scoped2 0 ∗ cellZ d i cc0_scoped2 1) ∗ cellZ d i cc0_scoped4 0
      ∗ flyOut d i X PM 127 (bk i 127) ∗ owesW d i O W) := by
  unfold Inv inP outP
  rw [if_neg (by omega), if_neg (by omega), slotA_congr d i (show 128 % 2 = 0 % 2 from rfl), slotA_congr d i (show (128 + 1) % 2 = 1 % 2 from rfl),
    slotA_congr d i (show 128 % 2 = 0 % 2 from rfl), cellZ_congr d i (show 128 % 2 = 0 % 2 from rfl),
    cellZ_congr d i (show (128 + 1) % 2 = 1 % 2 from rfl), cellZ_congr d i (show 128 % 2 = 0 % 2 from rfl)]
  iintro ⟨Hp, Hx, -, ⟨Hs, Hc⟩, Ht, He, Ho, -, Hu, Hg, HF, HO⟩
  isplitl [Hp]; · iexact Hp
  isplitl [Hx]; · iexact Hx
  isplitl [Ho]; · iexact Ho
  isplitl [Hs Ht]
  · isplitl [Hs]; · iexact Hs
    iexact Ht
  isplitl [Hu]; · iexact Hu
  isplitl [Hc He]
  · isplitl [Hc]; · iexact Hc
    iexact He
  isplitl [Hg]; · iexact Hg
  isplitl [HF]; · iexact HF
  iexact HO

set_option maxHeartbeats 1000000 in
/-- The tile's task: it leaves `x` and the permutation as they were and its 128 blocks of the output holding the result. -/
theorem task (hPM : ∀ y, (PM y).toNat < 4096) (q : PosShare TreeShare) :
    iprop(Transfers.MayWaits (th d i) (none : HIx 1) O ∗ permSrc d i PM q ∗ onFrom 0 (fun k => xB d i X (bk i k)) ∗ onFrom 0 (fun k => oB d i f₀ (bk i k))
      ∗ permAny d i ∗ permZ d i ∗ idle d i ∗ owesW d i O W)
      ⊢ wp frame (wpE (defs₀ (F := F)) 𝒱₀ (th d i) none) Set.univ
        (cc0_permute_kernel (F := F) i xW (Memref.isWhole_whole _) pW (Memref.isWhole_whole _) oW (Memref.isWhole_whole _) pmW (Memref.isWhole_whole _)
          cc0_scoped0 inW (Memref.isWhole_whole _) cc0_scoped2 outW (Memref.isWhole_whole _) cc0_scoped4)
        fun _ => iprop(permSrc d i PM q ∗ upTo 128 (fun k => xB d i X (bk i k)) ∗ upTo 128 (fun k => oB d i (G X PM) (bk i k))
          ∗ permAny d i ∗ permZ d i ∗ idle d i ∗ owesW d i O W) := by
  rw [cc0_permute_kernel_eq_skeleton]
  unfold cc0_permute_kernel_skel
  rw [k0_part4_eq_skeleton, k0_part5_eq_skeleton]
  unfold k0_part4_skel k0_part5_skel
  simp only [wp_bind]
  unfold idle
  rw [onFrom_lt (t := 0) (Φ := fun k => xB d i X (bk i k)) (by omega)]
  iintro ⟨#Hmw, Hp, ⟨Hx, Hxf⟩, Hof, Hs, Hz, ⟨⟨Hi0, Hi1⟩, Ho, Hc, He⟩, HO⟩
  icases Hc with ⟨Hc0, Hc1⟩
  iapply (fetch_perm d i PM O W) $$ [Hp Hs Hz HO]
  · isplitr; · iexact Hmw
    isplitl [Hp]; · iexact Hp
    isplitl [Hs]; · iexact Hs
    isplitl [Hz]; · iexact Hz
    iexact HO
  iintro Hp Hpm Hz HO
  iapply le_wp_ret
  iapply (start_in d i X (blk_of xW (rows_first i) _) (slot_of inW (t := 0) k0_off1_eq _) (cell_of cc0_scoped2 (t := 0) k0_off3_eq _)) $$ [Hx Hi0 Hc0]
  · isplitl [Hx]; · iexact Hx
    isplitl [Hi0]; · iexact Hi0
    iexact Hc0
  iintro HF
  iapply (pipeline d i X PM f₀ O W hPM) $$ [Hpm HF Hxf Hof Hi1 Ho Hc1 He HO]
  · isplitr; · iexact Hmw
    iapply (inv_start d i X PM f₀ O W)
    isplitl [Hpm]; · iexact Hpm
    isplitl [HF]; · iexact HF
    isplitl [Hxf]; · iexact Hxf
    isplitl [Hof]; · iexact Hof
    isplitl [Hi1]; · iexact Hi1
    isplitl [Ho]; · iexact Ho
    isplitl [Hc1]; · iexact Hc1
    isplitl [He]; · iexact He
    iexact HO
  iintro HI
  ihave HI := (inv_end d i X PM f₀ O W) $$ HI
  icases HI with ⟨Hpm, Hx, Hou, Hsi, Hso, Hci, Hco, HF, HO⟩
  iapply (assume_of d i (chk9_of i))
  iapply (assume_of d i chk8_of)
  iapply le_wp_ret
  iapply (wait_out d i X PM O W (blk_of oW (rows_last i) _) (cell_of cc0_scoped4 (t := 127) (cell_eq (t := 127) (by omega) k0_off31 fun _ => rfl) _)) $$ [HF HO]
  · isplitr; · iexact Hmw
    isplitl [HF]; · iexact HF
    iexact HO
  iintro Ho Hso' Hco' HO
  iapply le_wp_ret
  isplitl [Hp]; · iexact Hp
  isplitl [Hx]; · iexact Hx
  isplitl [Ho Hou]
  · iapply (Entails.of_eq (upTo_succ (Φ := fun k => oB d i (G X PM) (bk i k)) 127).symm)
    isplitl [Ho]; · iexact Ho
    iexact Hou
  isplitl [Hpm]
  · unfold permH permAny
    iexists _; iexact Hpm
  isplitl [Hz]; · iexact Hz
  isplitr [HO]
  · isplitl [Hsi]; · iexact Hsi
    isplitl [Hso Hso']
    · isplitl [Hso]; · iexact Hso
      iapply (Entails.of_eq (slotA_congr d i (show 127 % 2 = 1 % 2 from rfl))) $$ Hso'
    isplitl [Hci]; · iexact Hci
    isplitl [Hco]; · iexact Hco
    iapply (Entails.of_eq (cellZ_congr d i (show 127 % 2 = 1 % 2 from rfl))) $$ Hco'
  iexact HO

end Cert.KernelIdeal.Tile
-- ==== Proof.Pieces.lean ====
/-
  The whole arrays as their pieces: a 16384×4096 array is the blocks the tiles of both cores copy, the permutation the
  shares of it the tiles hold.
-/
module

public import proofs.«01_k».proof.Proof.Task

@[expose] public section

set_option maxRecDepth 16384

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The coordinates of tile `s` of core `c`. -/
def tileAt (c : Fin 2) (s : Fin 16) : grid0.Coords :=
  fun | 0 => c | 1 => s | ⟨_ + 2, h⟩ => absurd h (Nat.not_lt.2 (Nat.le_add_left _ _))

theorem base_tileAt (c : Fin 2) (s : Fin 16) : base (tileAt c s) = 128 * (s.val + 16 * c.val) := rfl

/-- A conjunction over all blocks, grouped by core, tile and trip. -/
theorem blocks_eq (Φ : Fin 4096 → sProp 𝕄) :
    bigSep Finset.univ Φ
      = bigSep Finset.univ fun c : Fin 2 => bigSep Finset.univ fun s : Fin 16 => onFrom 0 fun k => Φ (bk (tileAt c s) k) := by
  rw [bigSep_univ_equiv (show ((Fin 2 × Fin 16) × Fin 128) ≃ Fin 4096 from
      (Equiv.prodCongr finProdFinEquiv (Equiv.refl _)).trans finProdFinEquiv) Φ, bigSep_univ_prod, bigSep_univ_prod]
  refine bigSep_congr fun c _ => bigSep_congr fun s _ => ?_
  unfold onFrom
  rw [show Finset.Ico 0 128 = (Finset.univ : Finset (Fin 128)).map Fin.valEmbedding by
    rw [Fin.map_valEmbedding_univ]; ext k; simp, bigSep_map]
  refine bigSep_congr fun k _ => congrArg Φ (Fin.ext ?_)
  show k.val + 128 * (s.val + 16 * c.val) = (bk (tileAt c s) k.val).val
  rw [bk_val _ k.isLt, base_tileAt]; omega

/-- `x` whole is the tiles' blocks of it, … -/
theorem x_eq (d : Dev nD) (f : Buf (Elt F) (xLoc d)) :
    (xLoc d ↦{fullShare} f : sProp 𝕄)
      = bigSep Finset.univ fun c : Fin 2 => bigSep Finset.univ fun s : Fin 16 => onFrom 0 fun k => xB d (tileAt c s) f (bk (tileAt c s) k) := by
  have hdisj : ∀ n ∈ (Finset.univ : Finset (Fin 4096)), ∀ n' ∈ (Finset.univ : Finset (Fin 4096)), n ≠ n' →
      Disjoint (blk xW n).view.set (blk xW n').view.set := fun n _ n' _ hne =>
    Finset.disjoint_left.mpr fun j h h' => hne (Fin.ext (((mem_blk_x n j).mp h).symm.trans ((mem_blk_x n' j).mp h')))
  have hcov : (Finset.univ : Finset (Fin 4096)).biUnion (fun n => (blk xW n).view.set) = Finset.univ :=
    Finset.eq_univ_of_forall fun j => Finset.mem_biUnion.mpr
      ⟨⟨(j 0).val / 4, by have h : (j 0).val < 16384 := (j 0).isLt; omega⟩, Finset.mem_univ _, (mem_blk_x _ j).mpr rfl⟩
  have h : (xLoc d ↦{fullShare} f : sProp 𝕄) = bigSep Finset.univ fun n : Fin 4096 => xLoc d ↦[(blk xW n).view.set]{fullShare} f := by
    rw [← pointsTo_biUnion Finset.univ (ℓ := xLoc d) (fun n => (blk xW n).view.set) hdisj, hcov]
  rw [h, blocks_eq]; rfl

/-- … the result whole the tiles' blocks of it, … -/
theorem o_eq (d : Dev nD) (f : Buf (Elt F) (oLoc d)) :
    (oLoc d ↦{fullShare} f : sProp 𝕄)
      = bigSep Finset.univ fun c : Fin 2 => bigSep Finset.univ fun s : Fin 16 => onFrom 0 fun k => oB d (tileAt c s) f (bk (tileAt c s) k) := by
  have hdisj : ∀ n ∈ (Finset.univ : Finset (Fin 4096)), ∀ n' ∈ (Finset.univ : Finset (Fin 4096)), n ≠ n' →
      Disjoint (blk oW n).view.set (blk oW n').view.set := fun n _ n' _ hne =>
    Finset.disjoint_left.mpr fun j h h' => hne (Fin.ext (((mem_blk_o n j).mp h).symm.trans ((mem_blk_o n' j).mp h')))
  have hcov : (Finset.univ : Finset (Fin 4096)).biUnion (fun n => (blk oW n).view.set) = Finset.univ :=
    Finset.eq_univ_of_forall fun j => Finset.mem_biUnion.mpr
      ⟨⟨(j 0).val / 4, by have h : (j 0).val < 16384 := (j 0).isLt; omega⟩, Finset.mem_univ _, (mem_blk_o _ j).mpr rfl⟩
  have h : (oLoc d ↦{fullShare} f : sProp 𝕄) = bigSep Finset.univ fun n : Fin 4096 => oLoc d ↦[(blk oW n).view.set]{fullShare} f := by
    rw [← pointsTo_biUnion Finset.univ (ℓ := oLoc d) (fun n => (blk oW n).view.set) hdisj, hcov]
  rw [h, blocks_eq]; rfl

/-- The share of the permutation tile `s` of core `c` holds. -/
def shareOf (c : Fin 2) (s : Fin 16) : PosShare TreeShare :=
  Transfers.dealOf (Transfers.dealOf fullShare (Finset.univ : Finset (Fin 2)) c) (Finset.univ : Finset (Fin 16)) s

/-- … and the permutation whole the tiles' shares of it. -/
theorem p_eq (d : Dev nD) (f : S4096.Idx → BitVec 32) :
    (pLoc d ↦{fullShare} (f : S4096.Idx → Elt F .i32) : sProp 𝕄)
      = bigSep Finset.univ fun c : Fin 2 => bigSep Finset.univ fun s : Fin 16 => permSrc d (tileAt c s) f (shareOf c s) := by
  rw [Transfers.pointsTo_deal (Finset.univ : Finset (Fin 2)) Finset.univ_nonempty fullShare]
  refine bigSep_congr fun c _ => ?_
  rw [Transfers.pointsTo_deal (Finset.univ : Finset (Fin 16)) Finset.univ_nonempty]
  refine bigSep_congr fun s _ => ?_
  unfold permSrc shareOf
  have h : pW.view.set = Finset.univ := View.set_whole _
  exact congrArg (fun S => (pLoc d ↦[S]{_} (f : S4096.Idx → Elt F .i32) : sProp 𝕄)) h.symm

/-! ## A tile's double buffers -/

variable [FloatOps F]

theorem inW_disj : Disjoint (slot inW 0).view.set (slot inW 1).view.set :=
  Finset.disjoint_left.mpr fun j h h' => by
    have h := (mem_slot_in 0 j).mp h; have h' := (mem_slot_in 1 j).mp h'; omega
theorem inW_cover : (slot inW 0).view.set ∪ (slot inW 1).view.set = Finset.univ :=
  Finset.eq_univ_of_forall fun j => by
    have hj : (j 0).val < 2 := (j 0).isLt
    rcases (by omega : (j 0).val = 0 ∨ (j 0).val = 1) with h | h
    · exact Finset.mem_union_left _ ((mem_slot_in 0 j).mpr h)
    · exact Finset.mem_union_right _ ((mem_slot_in 1 j).mpr h)

/-- The inbound double buffer, whatever it holds, is its two slots, whatever they hold, … -/
theorem inW_split (d : Dev nD) (i : grid0.Coords) :
    iprop(∃ f, (th d i).loc cc0_scoped1 ↦{fullShare} f) ⊢ (iprop(slotA d i inW 0 ∗ slotA d i inW 1) : sProp 𝕄) := by
  iintro ⟨%f, H⟩
  have h : ((th d i).loc cc0_scoped1 ↦{fullShare} f : sProp 𝕄)
      ⊢ (iprop(((slot inW 0).view.loc (th d i) ↦[(slot inW 0).view.set]{fullShare} f)
        ∗ ((slot inW 1).view.loc (th d i) ↦[(slot inW 1).view.set]{fullShare} f)) : sProp 𝕄) := by
    refine (Entails.of_eq ?_).trans (pointsTo_union (ℓ := (th d i).loc cc0_scoped1) inW_disj).1
    rw [inW_cover]
  ihave H' := h $$ H
  icases H' with ⟨H0, H1⟩
  isplitl [H0]
  · iapply (slotH_any d i inW 0 f); iexact H0
  · iapply (slotH_any d i inW 1 f); iexact H1

/-- … and the two slots the buffer. -/
theorem inW_join (d : Dev nD) (i : grid0.Coords) :
    (iprop(slotA d i inW 0 ∗ slotA d i inW 1) : sProp 𝕄) ⊢ iprop(∃ f, (th d i).loc cc0_scoped1 ↦{fullShare} f) := by
  unfold slotA slotH
  iintro ⟨⟨%f, -, H0⟩, %g, -, H1⟩
  ihave H := (pointsTo_join (ℓ := (th d i).loc cc0_scoped1) (q := fullShare) (f := f) (g := g) inW_disj) $$ [H0 H1]
  · isplitl [H0]; · iexact H0
    iexact H1
  ihave H' := (Entails.of_eq (congrArg (fun S => ((th d i).loc cc0_scoped1 ↦[S]{fullShare} _ : sProp 𝕄)) inW_cover)) $$ H
  iexists _; iexact H'

theorem outW_disj : Disjoint (slot outW 0).view.set (slot outW 1).view.set :=
  Finset.disjoint_left.mpr fun j h h' => by
    have h := (mem_slot_out 0 j).mp h; have h' := (mem_slot_out 1 j).mp h'; omega
theorem outW_cover : (slot outW 0).view.set ∪ (slot outW 1).view.set = Finset.univ :=
  Finset.eq_univ_of_forall fun j => by
    have hj : (j 0).val < 2 := (j 0).isLt
    rcases (by omega : (j 0).val = 0 ∨ (j 0).val = 1) with h | h
    · exact Finset.mem_union_left _ ((mem_slot_out 0 j).mpr h)
    · exact Finset.mem_union_right _ ((mem_slot_out 1 j).mpr h)

/-- The outbound double buffer, whatever it holds, is its two slots, whatever they hold, … -/
theorem outW_split (d : Dev nD) (i : grid0.Coords) :
    iprop(∃ f, (th d i).loc cc0_scoped3 ↦{fullShare} f) ⊢ (iprop(slotA d i outW 0 ∗ slotA d i outW 1) : sProp 𝕄) := by
  iintro ⟨%f, H⟩
  have h : ((th d i).loc cc0_scoped3 ↦{fullShare} f : sProp 𝕄)
      ⊢ (iprop(((slot outW 0).view.loc (th d i) ↦[(slot outW 0).view.set]{fullShare} f)
        ∗ ((slot outW 1).view.loc (th d i) ↦[(slot outW 1).view.set]{fullShare} f)) : sProp 𝕄) := by
    refine (Entails.of_eq ?_).trans (pointsTo_union (ℓ := (th d i).loc cc0_scoped3) outW_disj).1
    rw [outW_cover]
  ihave H' := h $$ H
  icases H' with ⟨H0, H1⟩
  isplitl [H0]
  · iapply (slotH_any d i outW 0 f); iexact H0
  · iapply (slotH_any d i outW 1 f); iexact H1

/-- … and the two slots the buffer. -/
theorem outW_join (d : Dev nD) (i : grid0.Coords) :
    (iprop(slotA d i outW 0 ∗ slotA d i outW 1) : sProp 𝕄) ⊢ iprop(∃ f, (th d i).loc cc0_scoped3 ↦{fullShare} f) := by
  unfold slotA slotH
  iintro ⟨⟨%f, -, H0⟩, %g, -, H1⟩
  ihave H := (pointsTo_join (ℓ := (th d i).loc cc0_scoped3) (q := fullShare) (f := f) (g := g) outW_disj) $$ [H0 H1]
  · isplitl [H0]; · iexact H0
    iexact H1
  ihave H' := (Entails.of_eq (congrArg (fun S => ((th d i).loc cc0_scoped3 ↦[S]{fullShare} _ : sProp 𝕄)) outW_cover)) $$ H
  iexists _; iexact H'

end Cert.KernelIdeal.Tile
-- ==== Proof.Launch.lean ====
/-
  The launch: what the call is handed and hands back, each tile's task as the launch asks for it, the program on the
  TensorCore, and the run of the whole program from a memory whose permutation names columns: the arguments as they were,
  the result `x`'s columns in the permutation's order.
-/
module

public import proofs.«01_k».proof.Proof.Pieces

@[expose] public section

set_option maxRecDepth 16384

noncomputable section

namespace Cert.KernelIdeal.Tile

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What passes at the launch -/

section Payload

variable (d : Dev nD) (i : grid0.Coords) (X : S16384x4096.Idx → Elt F .f32) (PM : S4096.Idx → BitVec 32) (f₀ : S16384x4096.Idx → Elt F .f32)

/-- What a tile is handed: its share of the permutation, its blocks of `x` and of the result, … -/
def given (q : PosShare TreeShare) : sProp 𝕄 :=
  iprop(permSrc d i PM q ∗ onFrom 0 (fun k => xB d i X (bk i k)) ∗ onFrom 0 (fun k => oB d i f₀ (bk i k)))

instance given_storable (q : PosShare TreeShare) : BI.Storable (upEmb : UEmb _ 𝕄) (given d i X PM f₀ q) := by
  unfold given permSrc onFrom xB oB; infer_instance

end Payload

theorem nCore_zero : (K (F := F)).nCore 0 = 2 := rfl
theorem nSub_zero : (K (F := F)).nSub 0 = 16 := rfl

variable (m : (ℓ : Loc nD τ sig) → Buf (Elt F) ℓ) (ρ : Dev nD → PrngReg)

abbrev xOf (d : Dev nD) : S16384x4096.Idx → Elt F .f32 := m (xLoc d)
abbrev pOf (d : Dev nD) : S4096.Idx → BitVec 32 := m (pLoc d)
abbrev oOf (d : Dev nD) : S16384x4096.Idx → Elt F .f32 := m (oLoc d)
/-- The result from the launch memory. -/
abbrev gOf (d : Dev nD) : S16384x4096.Idx → Elt F .f32 := G (xOf m d) (pOf m d)

/-- … at the launch memory, the result's blocks as they were; and what it brings back, its blocks of the result filled. -/
def goT (d : Dev nD) (c : Fin 2) (s : Fin 16) : sProp 𝕄 := given d (tileAt c s) (xOf m d) (pOf m d) (oOf m d) (shareOf c s)
def tdT (d : Dev nD) (c : Fin 2) (s : Fin 16) : sProp 𝕄 := given d (tileAt c s) (xOf m d) (pOf m d) (gOf m d) (shareOf c s)
/-- A core is handed, and brings back, what its tiles are and do. -/
@[irreducible] def stC (d : Dev nD) (c : Fin 2) : sProp 𝕄 := bigSep Finset.univ fun s : Fin 16 => goT m d c s
@[irreducible] def dnC (d : Dev nD) (c : Fin 2) : sProp 𝕄 := bigSep Finset.univ fun s : Fin 16 => tdT m d c s

instance goT_storable (d : Dev nD) (c : Fin 2) (s : Fin 16) : BI.Storable (upEmb : UEmb _ 𝕄) (goT m d c s) := by unfold goT; infer_instance
instance tdT_storable (d : Dev nD) (c : Fin 2) (s : Fin 16) : BI.Storable (upEmb : UEmb _ 𝕄) (tdT m d c s) := by unfold tdT; infer_instance
instance stC_storable (d : Dev nD) (c : Fin 2) : BI.Storable (upEmb : UEmb _ 𝕄) (stC m d c) := by unfold stC; infer_instance
instance dnC_storable (d : Dev nD) (c : Fin 2) : BI.Storable (upEmb : UEmb _ 𝕄) (dnC m d c) := by unfold dnC; infer_instance

/-- The payloads of the one call. -/
def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c s => match q with | 0 => goT m d (Fin.cast nCore_zero c) (Fin.cast nSub_zero s)
  td := fun q d c s => match q with | 0 => tdT m d (Fin.cast nCore_zero c) (Fin.cast nSub_zero s)
  x := fun _ _ => iprop(emp)

instance P_storable : (P (F := F) m).IsStorable where
  st q d c := match q with | 0 => stC_storable m d (Fin.cast nCore_zero c)
  dn q d c := match q with | 0 => dnC_storable m d (Fin.cast nCore_zero c)
  go q d c s := match q with | 0 => goT_storable m d (Fin.cast nCore_zero c) (Fin.cast nSub_zero s)
  td q d c s := match q with | 0 => tdT_storable m d (Fin.cast nCore_zero c) (Fin.cast nSub_zero s)

/-! ## A tile's own memory -/

section Own

variable (d : Dev nD) (i : grid0.Coords)

abbrev gPerm : GSem nD τ sig := (th d i, SemLoc.dma cc0_scoped0.sem)
abbrev gIn (t : ℕ) : GSem nD τ sig := (th d i, SemLoc.dma (cell cc0_scoped2 t))
abbrev gOut (t : ℕ) : GSem nD τ sig := (th d i, SemLoc.dma (cell cc0_scoped4 t))

/-- The five semaphores of the kernel are among the tile's own: those are them and the rest. -/
theorem ownSems_eq :
    (ownSems0 (th d i) : sProp 𝕄)
      = iprop(semVal (gPerm d i) 0 ∗ semVal (gIn d i 0) 0 ∗ semVal (gIn d i 1) 0 ∗ semVal (gOut d i 0) 0 ∗ semVal (gOut d i 1) 0
          ∗ bigSep ((((((ownCells (th d i)).erase (gPerm d i)).erase (gIn d i 0)).erase (gIn d i 1)).erase (gOut d i 0)).erase (gOut d i 1))
              fun g => semVal g 0) := by
  have hne {a b : SemLoc sig} (h : a ≠ b) : ((th d i, a) : GSem nD τ sig) ≠ (th d i, b) := fun e => h (Prod.mk.inj e).2
  have hown {a : SemLoc sig} (h : a.isScoped .scVector = true) : ((th d i, a) : GSem nD τ sig) ∈ ownCells (th d i) := mem_ownCells.mpr ⟨rfl, h⟩
  unfold SparseCore.Cfg.ownSems0
  rw [SparseCore.bigSep_erase' (hown (a := SemLoc.dma cc0_scoped0.sem) (by decide)),
    SparseCore.bigSep_erase' (Finset.mem_erase.mpr ⟨hne (a := SemLoc.dma (cell cc0_scoped2 0)) (by decide), hown (by decide)⟩),
    SparseCore.bigSep_erase' (Finset.mem_erase.mpr ⟨hne (a := SemLoc.dma (cell cc0_scoped2 1)) (by decide),
      Finset.mem_erase.mpr ⟨hne (by decide), hown (by decide)⟩⟩),
    SparseCore.bigSep_erase' (Finset.mem_erase.mpr ⟨hne (a := SemLoc.dma (cell cc0_scoped4 0)) (by decide),
      Finset.mem_erase.mpr ⟨hne (by decide), Finset.mem_erase.mpr ⟨hne (by decide), hown (by decide)⟩⟩⟩),
    SparseCore.bigSep_erase' (Finset.mem_erase.mpr ⟨hne (a := SemLoc.dma (cell cc0_scoped4 1)) (by decide),
      Finset.mem_erase.mpr ⟨hne (by decide), Finset.mem_erase.mpr ⟨hne (by decide), Finset.mem_erase.mpr ⟨hne (by decide), hown (by decide)⟩⟩⟩⟩)]

/-- The three buffers of the kernel are among the tile's own: those are them, at some contents, and the rest. -/
theorem ownBufs_eq :
    (ownBufs (th d i) : sProp 𝕄)
      = iprop((∃ f, (th d i).loc cc0_scratch0 ↦{fullShare} f) ∗ (∃ f, (th d i).loc cc0_scoped1 ↦{fullShare} f)
          ∗ (∃ f, (th d i).loc cc0_scoped3 ↦{fullShare} f)
          ∗ bigSep ((((ownRefs (τ := τ) (th d i).2).erase ((th d i).2.devRef cc0_scratch0)).erase
              ((th d i).2.devRef cc0_scoped1)).erase ((th d i).2.devRef cc0_scoped3))
              fun b => iprop(∃ f, ((d, b) : Loc nD τ sig) ↦{fullShare} f)) := by
  have hne {a b : Ref sig .scVector} (h : a ≠ b) : (th d i).2.devRef a ≠ (th d i).2.devRef b := fun e => h (Proc.devRef_injective _ e)
  unfold SparseCore.Cfg.ownBufs
  refine (SparseCore.bigSep_erase' (SparseCore.Cfg.mem_ownRefs_of_owner (p := (th d i).2) (b := (th d i).2.devRef cc0_scratch0) rfl)).trans ?_
  rw [SparseCore.bigSep_erase' (Finset.mem_erase.mpr ⟨hne (a := cc0_scoped1) (by decide),
      SparseCore.Cfg.mem_ownRefs_of_owner (p := (th d i).2) (b := (th d i).2.devRef cc0_scoped1) rfl⟩),
    SparseCore.bigSep_erase' (Finset.mem_erase.mpr ⟨hne (a := cc0_scoped3) (by decide), Finset.mem_erase.mpr ⟨hne (by decide),
      SparseCore.Cfg.mem_ownRefs_of_owner (p := (th d i).2) (b := (th d i).2.devRef cc0_scoped3) rfl⟩⟩)]

/-- The buffer of the permutation, as the task holds it. -/
theorem permAny_eq : (permAny d i : sProp 𝕄) = iprop(∃ f, (th d i).loc cc0_scratch0 ↦{fullShare} f) := by
  unfold permAny
  have h : pmW.view.set = Finset.univ := View.set_whole _
  exact congrArg (fun S => (iprop(∃ f, (th d i).loc cc0_scratch0 ↦[S]{fullShare} f) : sProp 𝕄)) h

end Own

/-! ## The task, as the launch asks for it -/

variable [FloatOps F]

theorem upTo_eq_onFrom (Φ : ℕ → sProp 𝕄) : upTo 128 Φ = onFrom 0 Φ := by
  unfold upTo onFrom; rw [Finset.range_eq_Ico]

/-- One tile from what it is handed to what it brings back, its own memory returned. -/
theorem tile_body (d : Dev nD) (i : grid0.Coords) (X : S16384x4096.Idx → Elt F .f32) (PM : S4096.Idx → BitVec 32)
    (f₀ : S16384x4096.Idx → Elt F .f32) (hPM : ∀ y, (PM y).toNat < 4096) (q : PosShare TreeShare)
    (O : CellTallies nD τ sig (HIx 1)) (W : Waits sig (HIx 1)) (hO : ∀ g, O g none = 0) :
    iprop(levAts (K (F := F)).L (K (F := F)).lev ∗ emp ∗ given d i X PM f₀ q
        ∗ scopedBufs (th d i) ∗ scopedSems0 (th d i) ∗ owes (th d i) O W)
      ⊢ wp frame (wpE (defs₀ (F := F)) 𝒱₀ (th d i) none) Set.univ
        (cc0_permute_kernel (F := F) i xW (Memref.isWhole_whole _) pW (Memref.isWhole_whole _) oW (Memref.isWhole_whole _)
          pmW (Memref.isWhole_whole _) cc0_scoped0 inW (Memref.isWhole_whole _) cc0_scoped2 outW (Memref.isWhole_whole _) cc0_scoped4)
        fun _ => iprop(given d i X PM (G X PM) q ∗ scopedBufs (th d i) ∗ scopedSems0 (th d i)
          ∗ ∃ W', ⌜∀ p ∈ W', p ∈ W ∨ p.2 = none⌝ ∗ owes (th d i) O W') := by
  rw [show (scopedBufs (th d i) : sProp 𝕄) = ownBufs (th d i) from (K (F := F)).scopedBufs_V facts d _ _,
    show (scopedSems0 (th d i) : sProp 𝕄) = ownSems0 (th d i) from SparseCore.Cfg.scopedSems0_V (Val := Elt F) d _ _, ownSems_eq, ownBufs_eq]
  unfold given
  iintro ⟨Hlv, -, ⟨Hp, Hx, Ho⟩, ⟨Hb0, Hb1, Hb2, Hbufs⟩, ⟨Hs0, Hs1, Hs2, Hs3, Hs4, Hsems⟩, HO⟩
  ihave #Hmw := ((K (F := F)).mayWaits_none (thr := th d i) hO) $$ Hlv
  ihave Hb0 := (Entails.of_eq (permAny_eq d i).symm) $$ Hb0
  ihave Hb1 := (inW_split d i) $$ Hb1
  ihave Hb2 := (outW_split d i) $$ Hb2
  iapply wp_wand $$ [Hp Hx Ho Hb0 Hb1 Hb2 Hs0 Hs1 Hs2 Hs3 Hs4 HO]
  · iapply (task d i X PM f₀ O W hPM q)
    isplitr; · iexact Hmw
    isplitl [Hp]; · iexact Hp
    isplitl [Hx]; · iexact Hx
    isplitl [Ho]; · iexact Ho
    isplitl [Hb0]; · iexact Hb0
    isplitl [Hs0]; · unfold permZ; iexact Hs0
    isplitr [HO]
    · unfold idle cellZ
      isplitl [Hb1]; · iexact Hb1
      isplitl [Hb2]; · iexact Hb2
      isplitl [Hs1 Hs2]
      · isplitl [Hs1]; · iexact Hs1
        iexact Hs2
      isplitl [Hs3]; · iexact Hs3
      iexact Hs4
    · unfold owesW
      iexists W; isplitr
      · ipureintro; exact fun p hp => .inl hp
      · iexact HO
  iintro %_ ⟨Hp, Hx, Ho, Hb0, Hs0, Hidle, HO⟩
  unfold permZ idle cellZ
  icases Hidle with ⟨Hb1, Hb2, ⟨Hs1, Hs2⟩, Hs3, Hs4⟩
  ihave Hb0 := (Entails.of_eq (permAny_eq d i)) $$ Hb0
  ihave Hb1 := (inW_join d i) $$ Hb1
  ihave Hb2 := (outW_join d i) $$ Hb2
  ihave Hx := (Entails.of_eq (upTo_eq_onFrom _)) $$ Hx
  ihave Ho := (Entails.of_eq (upTo_eq_onFrom _)) $$ Ho
  isplitl [Hp Hx Ho]
  · isplitl [Hp]; · iexact Hp
    isplitl [Hx]; · iexact Hx
    iexact Ho
  isplitl [Hb0 Hb1 Hb2 Hbufs]
  · isplitl [Hb0]; · iexact Hb0
    isplitl [Hb1]; · iexact Hb1
    isplitl [Hb2]; · iexact Hb2
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  unfold owesW
  iexact HO

/-- What the launch memory must hold: every word of the permutation names a column. -/
def InRange : Prop := ∀ (d : Dev nD) (y : S4096.Idx), (pOf m d y).toNat < 4096

theorem defs₀_vector (c : Fin τ.nSC) (s : Fin τ.nSub) :
    defs₀ (F := F) (.scVector c s) 0 ()
      = SparseCore.onTile hcore0 hsub0 (fun c s => cc0_permute_kernel (F := F) (tileAt c s) xW (Memref.isWhole_whole _) pW (Memref.isWhole_whole _) oW (Memref.isWhole_whole _)
          pmW (Memref.isWhole_whole _) cc0_scoped0 inW (Memref.isWhole_whole _) cc0_scoped2 outW (Memref.isWhole_whole _) cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, as the launch asks for it. -/
theorem tileObl (hm : InRange m) : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact (tile_body d (tileAt ⟨_, hc.1⟩ ⟨_, hc.2⟩) (xOf m d) (pOf m d) (oOf m d) (hm d) (shareOf ⟨_, hc.1⟩ ⟨_, hc.2⟩) O W hO).trans
    (wp_mono frame _ _ fun _ => obl_post)

omit [FloatOps F] in
theorem bigSep_tasks (Φ : Fin 16 → sProp 𝕄) :
    (bigSep Finset.univ fun s : Fin ((K (F := F)).nSub 0) => Φ (Fin.cast nSub_zero s)) = bigSep Finset.univ Φ := rfl
omit [FloatOps F] in
theorem bigSep_cores (Φ : Fin 2 → sProp 𝕄) :
    (bigSep Finset.univ fun c : Fin ((K (F := F)).nCore 0) => Φ (Fin.cast nCore_zero c)) = bigSep Finset.univ Φ := rfl

omit [FloatOps F] in
/-- A core's payload is its tiles', by definition. -/
theorem vecSplit : (K (F := F)).VecSplit' (P m) 0 := by
  intro d c
  show stC m d (Fin.cast nCore_zero c) ⊢ |={Set.univ}=> iprop(
      (bigSep Finset.univ fun s : Fin ((K (F := F)).nSub 0) => goT m d (Fin.cast nCore_zero c) (Fin.cast nSub_zero s))
      ∗ ((bigSep Finset.univ fun s : Fin ((K (F := F)).nSub 0) => tdT m d (Fin.cast nCore_zero c) (Fin.cast nSub_zero s))
          -∗ dnC m d (Fin.cast nCore_zero c)))
  rw [bigSep_tasks (F := F) (fun s => goT m d (Fin.cast nCore_zero c) s), bigSep_tasks (F := F) (fun s => tdT m d (Fin.cast nCore_zero c) s)]
  unfold stC dnC
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he {I : Type} (s : Finset I) : (bigSep s fun _ => iprop(emp)) = (iprop(emp) : sProp 𝕄) := bigSep_emp_const s
  unfold u₀
  iintro Hu
  ihave H := (ownU_pair _ _) $$ Hu
  icases H with ⟨HH, -⟩
  imodintro
  isplitl [HH]; · iexact HH
  isplitr; · rw [he]; iempintro
  rw [show (bigSep Finset.univ fun thr : Thread nD τ => bigSep Finset.univ fun q : Fin 1 => (P m).x q thr) = (iprop(emp) : sProp 𝕄) from
    (bigSep_congr fun _ _ => he _).trans (he _)]
  iempintro

/-! ## The program on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- What all tiles hold together is the three arrays whole. -/
theorem given_eq (d : Dev nD) (X : S16384x4096.Idx → Elt F .f32) (PM : S4096.Idx → BitVec 32) (f : S16384x4096.Idx → Elt F .f32) :
    (bigSep Finset.univ fun c : Fin 2 => bigSep Finset.univ fun s : Fin 16 => given d (tileAt c s) X PM f (shareOf c s))
      = (iprop((pLoc d ↦{fullShare} (PM : S4096.Idx → Elt F .i32)) ∗ (xLoc d ↦{fullShare} X) ∗ (oLoc d ↦{fullShare} f)) : sProp 𝕄) := by
  rw [x_eq, o_eq, p_eq, ← bigSep_sep', ← bigSep_sep']
  refine bigSep_congr fun c _ => ?_
  rw [← bigSep_sep', ← bigSep_sep']
  rfl

omit [FloatOps F] in
theorem st0_eq (d : Dev nD) : (bigSep Finset.univ fun c : Fin ((K (F := F)).nCore 0) => (P m).st 0 d c)
    = (iprop((pLoc d ↦{fullShare} m (pLoc d)) ∗ (xLoc d ↦{fullShare} m (xLoc d)) ∗ (oLoc d ↦{fullShare} m (oLoc d))) : sProp 𝕄) := by
  refine (bigSep_cores (F := F) (fun c => stC m d c)).trans ?_
  unfold stC goT
  exact given_eq d _ _ _
omit [FloatOps F] in
theorem dn0_eq (d : Dev nD) : (bigSep Finset.univ fun c : Fin ((K (F := F)).nCore 0) => (P m).dn 0 d c)
    = (iprop((pLoc d ↦{fullShare} m (pLoc d)) ∗ (xLoc d ↦{fullShare} m (xLoc d)) ∗ (oLoc d ↦{fullShare} gOf m d)) : sProp 𝕄) := by
  refine (bigSep_cores (F := F) (fun c => dnC m d c)).trans ?_
  unfold dnC tdT
  exact given_eq d _ _ _

/-- What the program ends with: the arguments as they were, the result. -/
abbrev FIN (d : Dev nD) : sProp 𝕄 :=
  iprop((pLoc d ↦{fullShare} m (pLoc d)) ∗ (xLoc d ↦{fullShare} m (xLoc d)) ∗ (oLoc d ↦{fullShare} gOf m d))

/-- The program on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hp, Ho⟩, Hts, -⟩, -⟩
  iapply ((K (F := F)).wp_run (D (F := F)) 𝒱 (EH := EH) (P := P m) κ d 0) $$ [Hst Hx Hp Ho Hb Hts]
  isplitr; · iexact Hctx
  isplitl [Hst]; · iexact Hst
  isplitl [Hx Hp Ho]
  · iapply (Entails.of_eq (st0_eq m d).symm)
    isplitl [Hp]; · iexact Hp
    isplitl [Hx]; · iexact Hx
    iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What the final memory of device `d` holds. -/
def fq (d : Dev nD) (s' : Phys nD τ sig (Elt F)) : Prop :=
  s'.mem.mem (xLoc d) = m (xLoc d) ∧ s'.mem.mem (pLoc d) = m (pLoc d) ∧ s'.mem.mem (oLoc d) = gOf m d

omit [FloatOps F] in
theorem hfin (d : Dev nD) (s' : Phys nD τ sig (Elt F)) : iprop(FIN m d ∗ SI s') ⊢ (⌜fq m d s'⌝ : sProp 𝕄) := by
  iintro ⟨⟨Hp, Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := oLoc d) (I := Finset.univ) (q := fullShare) (f := gOf m d)) $$ [HSI Ho]
  · isplitl [HSI] <;> iassumption
  icases H with %h3
  ipureintro
  exact ⟨funext fun j => h1 j (Finset.mem_univ j), funext fun j => h2 j (Finset.mem_univ j), funext fun j => h3 j (Finset.mem_univ j)⟩

/-! ## The run -/

/-- The final state: on every device the arguments as they were, the result computed; every semaphore at zero. -/
def QC : PUnit × MemSt nD τ sig (Elt F) → Prop := fun r =>
  (∀ c : Dev nD, r.2.mem (xLoc c) = m (xLoc c) ∧ r.2.mem (pLoc c) = m (pLoc c) ∧ r.2.mem (oLoc c) = gOf m c) ∧ r.2.sem = fun _ => 0

/-- From a memory whose permutation names columns, every run of the program ends in such a state. -/
theorem run_main [∀ e, Nonempty (Elt F e)] (hm : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tile

end
-- ==== Proof.Take.lean ====
/-
  The two pieces of host code: what the precondition says of the permutation, and that the reference — jax's `take` along
  the columns, with its wrapping of negative indices and its mask for those out of range — gives, for a permutation that
  names columns, `x`'s columns in the permutation's order.
-/
module

public import proofs.«01_k».proof.Proof.Base
public import proofs.«01_k».proof.Proof.Gen.ReferenceIdeal
public import proofs.«01_k».proof.Proof.Gen.Pre_in_range
public import Idealize.ShloMosaic.Lib.ReduceAll

@[expose] public section

set_option maxRecDepth 16384

noncomputable section

namespace Cert.Proof.Take

open Idealize.ShloMosaic Idealize.ShloMosaic.ValueIdx

variable {F : FTy → Type} [FloatOps F]

/-! ## Words -/

theorem slt_zero_of_lt {w : BitVec 32} (h : w.toNat < 4096) : IntOp.cmpi .slt w 0#32 = 0#1 := by
  simp only [IntOp.cmpi, BitVec.slt_eq_decide, BitVec.toInt_eq_toNat_cond, BitVec.toNat_ofNat]
  rw [decide_eq_false (by omega)]; rfl
theorem sge_zero_of_lt {w : BitVec 32} (h : w.toNat < 4096) : IntOp.cmpi .sge w 0#32 = 1#1 := by
  simp only [IntOp.cmpi, BitVec.sle_eq_decide, BitVec.toInt_eq_toNat_cond, BitVec.toNat_ofNat]
  rw [decide_eq_true (by omega)]; rfl
theorem sle_last_of_lt {w : BitVec 32} (h : w.toNat < 4096) : IntOp.cmpi .sle w 4095#32 = 1#1 := by
  simp only [IntOp.cmpi, BitVec.sle_eq_decide, BitVec.toInt_eq_toNat_cond, BitVec.toNat_ofNat]
  rw [decide_eq_true (by omega)]; rfl
/-- A word from 0 to 4095 as a signed number is one as it stands. -/
theorem lt_of_signed {w : BitVec 32} (h : IntOp.andi (IntOp.cmpi .sge w 0#32) (IntOp.cmpi .slt w 4096#32) = 1#1) : w.toNat < 4096 := by
  have hand : ∀ p q : Bool, IntOp.andi (BitVec.ofBool p) (BitVec.ofBool q) = 1#1 → p = true ∧ q = true := by decide
  obtain ⟨h0, h1⟩ := hand _ _ h
  simp only [BitVec.sle_eq_decide, BitVec.slt_eq_decide, decide_eq_true_eq, BitVec.toInt_eq_toNat_cond, BitVec.toNat_ofNat] at h0 h1
  omega

/-! ## The precondition -/

/-- The precondition says that every word of the permutation is below 4096. -/
theorem range_of_pre [Cert.Pre_in_range.Facts] (x : FVec F Cert.Pre_in_range.S16384x4096 .f32) (p : IVec Cert.Pre_in_range.S4096 32)
    (h : Cert.Pre_in_range.fn (F := F) x p = fun _ => 1#1) (y : Cert.Pre_in_range.S4096.Idx) : (p y).toNat < 4096 := by
  haveI : Subsingleton Cert.Pre_in_range.S_.Idx := ⟨fun a b => funext fun k => k.elim0⟩
  have e := congrFun h (fun k => k.elim0)
  exact lt_of_signed (Host.reduce_andi_all _ _ _ _ _ e y)

/-! ## The reference -/

open Cert.ReferenceIdeal Cert.ReferenceIdeal.Gen

variable (X : S16384x4096.Idx → Elt F .f32) (PM : S4096.Idx → BitVec 32)

/-- The column indices the reference gathers: a negative one is counted from the end. -/
def wrapped : IVec S4096 32 :=
  select (cmpi .slt PM (broadcastInDim S4096 ![] bcast_S_S4096 (constantI S_ 32 0#32)))
    (addi PM (broadcastInDim S4096 ![] bcast_S_S4096 (constantI S_ 32 4096#32))) PM
/-- The same as a column of start indices. -/
def starts : IVec S4096x1 32 := broadcastInDim S4096x1 ![0] bcast_S4096_S4096x1_0 (wrapped PM)

/-- No index is negative: they stay as they are. -/
theorem wrapped_eq (h : ∀ y, (PM y).toNat < 4096) : wrapped PM = PM := by
  funext y
  show Scalar.select (IntOp.cmpi .slt (PM y) 0#32) _ (PM y) = PM y
  rw [slt_zero_of_lt (h y)]; rfl

theorem starts_apply (h : ∀ y, (PM y).toNat < 4096) (y : S4096x1.Idx) : starts PM y = PM (ix1 (y 0)) := by
  unfold starts
  rw [wrapped_eq PM h]
  show PM _ = PM _
  congr 1; funext a
  obtain rfl : a = 0 := Subsingleton.elim _ _
  rfl

/-- The gather reads row `j 0` of `x` at the column the start index of `j 1` names (read signed, brought into range). -/
theorem gather_apply (s : IVec S4096x1 32) (j : S16384x4096.Idx) :
    Host.gather gather_S16384x4096_S4096x1_S16384x4096_0_1_n_n_1_1_163841 X s j
      = X (ix2 (j 0) (⟨min (s (ix2 (j 1) (0 : Fin 1))).toInt.toNat 4095, by omega⟩ : Fin 4096)) := by
  unfold Host.gather
  congr 1; funext a; apply Fin.ext
  show GatherDims.start _ j s a + GatherDims.batchCoord _ j a + GatherDims.offCoord _ j a = _
  rw [GatherDims.batchCoord_eq_zero _ _ _ List.not_mem_nil, Nat.add_zero]
  match a with
  | 0 =>
    unfold GatherDims.start GatherDims.offCoord
    rw [dif_neg (by decide), dif_pos (by decide)]
    exact Nat.zero_add _
  | 1 =>
    rw [GatherDims.offCoord_eq_zero _ _ _ (by decide), Nat.add_zero]
    unfold GatherDims.start
    rw [dif_pos (by decide)]
    have hs : GatherDims.siIdx gather_S16384x4096_S4096x1_S16384x4096_0_1_n_n_1_1_163841 j ⟨0, by decide⟩ = ix2 (j 1) (0 : Fin 1) := by
      funext b; apply Fin.ext
      match b with
      | 0 => rfl
      | 1 => rfl
    exact congrArg (fun k => min (s k).toInt.toNat 4095) hs

/-- The reference's result: the gathered columns where the index is in range, else a NaN. -/
def out : S16384x4096.Idx → Elt F .f32 :=
  select (broadcastInDim S16384x4096 ![1] bcast_S4096_S16384x4096_1
      (Host.reduce IntOp.andi
        (andi (cmpi .sge (starts PM) (broadcastInDim S4096x1 ![] bcast_S_S4096x1 (constantI S_ 32 0#32)))
          (cmpi .sle (starts PM) (broadcastInDim S4096x1 ![0, 1] bcast_S1x1_S4096x1_0_1 (broadcastInDim S1x1 ![1] bcast_S1_S1x1_1 (constantI S1 32 4095#32)))))
        (constantI S_ 1 1#1) reducesTo_S4096x1_S4096_d1 h_S_))
    (Host.gather gather_S16384x4096_S4096x1_S16384x4096_0_1_n_n_1_1_163841 X (starts PM))
    (broadcastInDim S16384x4096 ![] bcast_S_S16384x4096 (constant S_ .f32 0x7FC00000#32))

/-- For a permutation that names columns it is `x`'s columns in the permutation's order. -/
theorem out_eq (h : ∀ y, (PM y).toNat < 4096) : out X PM = Cert.KernelIdeal.Tile.G X PM := by
  funext j
  have hm : Host.reduce IntOp.andi
        (andi (cmpi .sge (starts PM) (broadcastInDim S4096x1 ![] bcast_S_S4096x1 (constantI S_ 32 0#32)))
          (cmpi .sle (starts PM) (broadcastInDim S4096x1 ![0, 1] bcast_S1x1_S4096x1_0_1 (broadcastInDim S1x1 ![1] bcast_S1_S1x1_1 (constantI S1 32 4095#32)))))
        (constantI S_ 1 1#1) reducesTo_S4096x1_S4096_d1 h_S_ = fun _ => 1#1 := by
    funext k
    refine Host.reduce_andi_one _ _ _ _ _ rfl fun y => ?_
    show IntOp.andi (IntOp.cmpi .sge (starts PM y) 0#32) (IntOp.cmpi .sle (starts PM y) 4095#32) = 1#1
    rw [starts_apply PM h y, sge_zero_of_lt (h _), sle_last_of_lt (h _)]; rfl
  unfold out
  rw [hm]
  show Scalar.select 1#1 (Host.gather gather_S16384x4096_S4096x1_S16384x4096_0_1_n_n_1_1_163841 X (starts PM) j) _ = _
  rw [show ∀ a b : Elt F .f32, Scalar.select 1#1 a b = a from fun _ _ => rfl, gather_apply]
  unfold Cert.KernelIdeal.Tile.G
  congr 2
  apply Fin.ext
  show min (starts PM (ix2 (j 1) (0 : Fin 1))).toInt.toNat 4095 = (PM (ix1 (j 1))).toNat % 4096
  rw [show starts PM (ix2 (j 1) (0 : Fin 1)) = PM (ix1 (j 1)) from starts_apply PM h _]
  have := h (ix1 (j 1))
  rw [BitVec.toInt_eq_toNat_cond, if_pos (by omega), Int.toNat_natCast, Nat.mod_eq_of_lt this]
  omega

end Cert.Proof.Take

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.K.Launch
public import proofs.«01_k».proof.Proof.Take
public import Idealize.ShloMosaic.Adequacy
public import Idealize.ShloMosaic.Init

@[expose] public section

noncomputable section

namespace Cert.Proof

open Idealize.ShloMosaic Idealize.SL.Sem

/-- The kernel terminates without fault, leaves its arguments as they were and its semaphores at zero: its run
    (`Tile.run_main`), the result dropped. -/
theorem frame_kernel : Cert.quiescent_Kernel := fun m ρ hpre =>
  (θ_run Cert.Kernel.defs _ _).mono (fun _ h => ⟨fun c => ⟨(h.1 c).1, (h.1 c).2.1⟩, h.2⟩)
    (Cert.Kernel.Tile.run_main (F := Bits) m ρ fun d y => Take.range_of_pre _ _ (hpre d) y)

/-- So does the ideal kernel. -/
theorem frame_ideal : Cert.quiescent_KernelIdeal := fun m ρ hpre =>
  (θ_run Cert.KernelIdeal.defs _ _).mono (fun _ h => ⟨fun c => ⟨(h.1 c).1, (h.1 c).2.1⟩, h.2⟩)
    (Cert.KernelIdeal.Tile.run_main (F := Ideal) m ρ fun d y => Take.range_of_pre _ _ (hpre d) y)

/-- The reference does from every memory: its generated run; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same result, `x`'s columns in the permutation's order. -/
theorem algebraic : Cert.algebraic_KernelIdeal_ReferenceIdeal := by
  intro m ρ m' ρ' hpre hagree
  have hr : Cert.KernelIdeal.Tile.InRange m := fun d y => Take.range_of_pre _ _ (hpre d) y
  refine ⟨fun c => Cert.KernelIdeal.Tile.gOf m c,
    (θ_run Cert.KernelIdeal.defs _ _).mono (fun _ h c => ⟨(h.1 c).2.2, (h.1 c).1, (h.1 c).2.1⟩)
      (Cert.KernelIdeal.Tile.run_main (F := Ideal) m ρ hr), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Take.out_eq (F := Ideal) (Cert.KernelIdeal.Tile.xOf m c) (Cert.KernelIdeal.Tile.pOf m c) (hr c)

/-- Every claim of the certificate. -/
theorem claim : Cert.Claim := ⟨Cert.Kernel.Gen.facts, Cert.KernelIdeal.Gen.facts, Cert.ReferenceIdeal.Gen.facts, Cert.Pre_in_range.Gen.facts,
  frame_kernel, frame_ideal, frame_reference, fun m ρ _ => frame_reference m ρ trivial, trivial, algebraic⟩

end Cert.Proof

end
